-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .f32) (main_arg1 : FVec F S8x1024x16x128 .f32) (main_arg2 : FVec F S8x1024x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .f32 := Host.absf main_arg1
  let main_cst_0 : FVec F S_ .f32 := constant S_ .f32 0x7F800000#32
  let main_v5 : FVec F S8x1024x16x128 .f32 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  main_v8
-- ==== Pre_finite_qk_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .f32) (main_arg1 : FVec F S8x2048x16x128 .f32) (main_arg2 : FVec F S8x2048x16x128 .f32) : IVec S_ 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x2048x16x128 .f32 := Host.absf main_arg1
  let main_cst_0 : FVec F S_ .f32 := constant S_ .f32 0x7F800000#32
  let main_v5 : FVec F S8x2048x16x128 .f32 := broadcastInDim S8x2048x16x128 ![] bcast_S_S8x2048x16x128 main_cst_0
  let main_v6 : IVec S8x2048x16x128 1 := cmpf .olt main_v4 main_v5
  let main_c_1 : IVec S_ 1 := constantI S_ 1 1#1
  let main_v7 : IVec S_ 1 := (fun x v => Host.reduce IntOp.andi x v reducesTo_S8x2048x16x128_S_d0_1_2_3 h_S_) main_v6 main_c_1
  let main_v8 : IVec S_ 1 := andi main_v3 main_v7
  main_v8
-- ==== Kernel.lean ====
abbrev S8x8x16x128 : Shape := ⟨4, ![8, 8, 16, 128]⟩
abbrev S8x1024x16x128 : Shape := ⟨4, ![8, 1024, 16, 128]⟩
abbrev S8x16x8 : Shape := ⟨3, ![8, 16, 8]⟩
abbrev S1x8x8x128 : Shape := ⟨4, ![1, 8, 8, 128]⟩
abbrev S1x1024x8x128 : Shape := ⟨4, ![1, 1024, 8, 128]⟩
abbrev S1x8x8 : Shape := ⟨3, ![1, 8, 8]⟩
abbrev S1x8x1x128 : Shape := ⟨4, ![1, 8, 1, 128]⟩
abbrev S8x128 : Shape := ⟨2, ![8, 128]⟩
abbrev S1x1024x1x128 : Shape := ⟨4, ![1, 1024, 1, 128]⟩
abbrev S1024x128 : Shape := ⟨2, ![1024, 128]⟩
abbrev S8x1024 : Shape := ⟨2, ![8, 1024]⟩
abbrev S8 : Shape := ⟨1, ![8]⟩
abbrev S1x1x8 : Shape := ⟨3, ![1, 1, 8]⟩
abbrev S2 : Shape := ⟨1, ![2]⟩
abbrev S_ : Shape := ⟨0, ![]⟩
abbrev S1 : Shape := ⟨1, ![1]⟩
abbrev S8x8x16 : Shape := ⟨3, ![8, 8, 16]⟩
abbrev S8x8x16x1 : Shape := ⟨4, ![8, 8, 16, 1]⟩

abbrev nBuf : Space → Nat
  | .hbm => 6
  | .vmem => 15
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .hbm, ⟨4, _⟩ => ⟨S8x16x8, .f32⟩
  | .hbm, ⟨5, _⟩ => ⟨S8x8x16x128, .f32⟩
  | .local _ .vmem, ⟨0, _⟩ => ⟨S1x8x8x128, .f32⟩
  | .local _ .vmem, ⟨1, _⟩ => ⟨S1x8x8x128, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1x1024x8x128, .f32⟩
  | .local _ .vmem, ⟨5, _⟩ => ⟨S1x1024x8x128, .f32⟩
  | .local _ .vmem, ⟨6, _⟩ => ⟨S1x8x8x128, .f32⟩
  | .local _ .vmem, ⟨7, _⟩ => ⟨S1x8x8x128, .f32⟩
  | .local _ .vmem, ⟨8, _⟩ => ⟨S1x8x8, .f32⟩
  | .local _ .vmem, ⟨9, _⟩ => ⟨S1x8x8, .f32⟩
  | .local _ .vmem, ⟨10, _⟩ => ⟨S8x8x16x128, .f32⟩
  | .local _ .vmem, ⟨11, _⟩ => ⟨S8x16x8, .f32⟩
  | .local _ .vmem, ⟨12, _⟩ => ⟨S8x8x16x128, .f32⟩
  | .local _ .vmem, ⟨13, _⟩ => ⟨S8x8x16x128, .f32⟩
  | .local _ .vmem, ⟨14, _⟩ => ⟨S8x16x8, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev barrier0 : Sem sig := 0

abbrev nD : Nat := 4
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

def k1_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k1_dev2 (d0 : Dev nD) : Nat :=
  let c0_i32_10 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_9 : BitVec 32 := 2#32
  let v12 : BitVec 32 := Scalar.muli v6 c2_i32_9
  let v13 : BitVec 32 := Scalar.addi c0_i32_10 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_11 : BitVec 32 := 1#32
  let v14 : BitVec 32 := Scalar.muli v5 c1_i32_11
  let v15 : BitVec 32 := Scalar.addi v13 v14
  v15.toNat
def k1_dev3 (d0 : Dev nD) : Nat :=
  let c0_i32_15 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_14 : BitVec 32 := 2#32
  let v20 : BitVec 32 := Scalar.muli v6 c2_i32_14
  let v21 : BitVec 32 := Scalar.addi c0_i32_15 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v22 : BitVec 32 := Scalar.muli v5 c1_i32_16
  let v23 : BitVec 32 := Scalar.addi v21 v22
  v23.toNat
abbrev stage1_0 : Fin 1 → Memref sig .tc .vmem S8x8x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x8x16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x8x16x128 : Shape := ⟨4, ![8, 8, 16, 128]⟩
abbrev S8x2048x16x128 : Shape := ⟨4, ![8, 2048, 16, 128]⟩
abbrev S8x16x8x2048 : Shape := ⟨4, ![8, 16, 8, 2048]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 21
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x2048x16x128, .f32⟩
  | .hbm, ⟨2, _⟩ => ⟨S8x2048x16x128, .f32⟩
  | .hbm, ⟨3, _⟩ => ⟨S8x16x8x2048, .f32⟩
  | .hbm, ⟨4, _⟩ => ⟨S_, .f32⟩
  | .hbm, ⟨5, _⟩ => ⟨S_, .f32⟩
  | .hbm, ⟨6, _⟩ => ⟨S8x16x8x2048, .f32⟩
  | .hbm, ⟨7, _⟩ => ⟨S8x16x8x2048, .f32⟩
  | .hbm, ⟨8, _⟩ => ⟨S_, .f32⟩
  | .hbm, ⟨9, _⟩ => ⟨S8x16x8, .f32⟩
  | .hbm, ⟨10, _⟩ => ⟨S8x16x8x1, .f32⟩
  | .hbm, ⟨11, _⟩ => ⟨S8x16x8x2048, .f32⟩
  | .hbm, ⟨12, _⟩ => ⟨S8x16x8x2048, .f32⟩
  | .hbm, ⟨13, _⟩ => ⟨S8x16x8x2048, .f32⟩
  | .hbm, ⟨14, _⟩ => ⟨S_, .f32⟩
  | .hbm, ⟨15, _⟩ => ⟨S8x16x8, .f32⟩
  | .hbm, ⟨16, _⟩ => ⟨S8x16x8x1, .f32⟩
  | .hbm, ⟨17, _⟩ => ⟨S8x16x8x2048, .f32⟩
  | .hbm, ⟨18, _⟩ => ⟨S8x16x8x2048, .f32⟩
  | .hbm, ⟨19, _⟩ => ⟨S8x16x128x8, .f32⟩
  | .hbm, ⟨20, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Swap.lean ====
/-
  The exchange of partial results between the two devices of a pair: what the second kernel
  (`cc1__combine_kernel`) does with its semaphores and its two remote copies, as a schedule of
  paid units.

  Device `c` is paired with `mate c`, the device with the other first mesh coordinate. Each
  device has five semaphore cells in the exchange (`Cell`): the barrier cell, one cell per
  copy it sends and one per copy it receives. Every cell is paid exactly once:

  * barrier: one unit from the mate, who thereby lends its two landing buffers;
  * sent i:  the credit of the device's own copy `i`, whose source comes back;
  * landed i: the credit of the mate's copy `i`, with the landing buffer holding the mate's data.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Two copies of the rounds algebra: the pipelines' and the exchange's. -/
abbrev UU : Type := UR sig nD τ × UR sig nD τ

local notation "𝕄" => MT nD τ sig Unit (Elt F) ℕ UU ℕ

noncomputable abbrev EP : Emb (UR sig nD τ) (MT nD τ sig Unit (Elt F) ℕ UU ℕ) := embL
noncomputable abbrev ER : Emb (UR sig nD τ) (MT nD τ sig Unit (Elt F) ℕ UU ℕ) := embR

/-! ## The pairing of the devices -/

/-- The device with the other first coordinate: `(x, y) ↦ (1 - x, y)`. -/
noncomputable def mate (c : Dev nD) : Dev nD := ⟨(c.val % 2 + 2) - 2 * (c.val / 2), by have h : c.val < 4 := c.isLt; show _ < 4; omega⟩

theorem mate_mate (c : Dev nD) : mate (mate c) = c := by revert c; decide

/-- The pairing as a permutation. -/
noncomputable def mates : Dev nD ≃ Dev nD := ⟨mate, mate, mate_mate, mate_mate⟩

theorem dev1_mate (c : Dev nD) : (⟨k1_dev1 c, k1_dev1_lt c⟩ : Dev nD) = mate c := Fin.ext (k1_dev1_eq c)
theorem dev2_mate (c : Dev nD) : (⟨k1_dev2 c, k1_dev2_lt c⟩ : Dev nD) = mate c := Fin.ext (k1_dev2_eq c)
theorem dev3_mate (c : Dev nD) : (⟨k1_dev3 c, k1_dev3_lt c⟩ : Dev nD) = mate c := Fin.ext (k1_dev3_eq c)

/-! ## The cells -/

/-- The five cells of a device: barrier, sent 0, sent 1, landed 0, landed 1. -/
abbrev Cell : Type := Fin 5

/-- Which semaphore each cell is. -/
noncomputable abbrev semOf : Cell → SemLoc sig :=
  fun | 0 => .reg barrier0 | 1 => .dma 13 | 2 => .dma 14 | 3 => .dma 15 | 4 => .dma 16

theorem semOf_inj : Function.Injective semOf := by decide

/-- Which cell a semaphore is, if any. -/
noncomputable def cellAt (s : SemLoc sig) : Option Cell :=
  if s = semOf 0 then some 0 else if s = semOf 1 then some 1 else if s = semOf 2 then some 2
  else if s = semOf 3 then some 3 else if s = semOf 4 then some 4 else none

theorem cellAt_semOf : ∀ k : Cell, cellAt (semOf k) = some k := by decide

/-- Cell `k` of device `c`. -/
noncomputable abbrev gcell (c : Dev nD) (k : Cell) : GSem nD τ sig := ((c : Thread nD τ), semOf k)

/-- The credits of the two copies. -/
noncomputable abbrev N0 : ℕ := (Memref.whole cc1_scratch0 : Memref sig .tc .vmem S8x8x16x128 .f32).view.dmaCredit
noncomputable abbrev N1 : ℕ := (Memref.whole cc1_scratch1 : Memref sig .tc .vmem S8x16x8 .f32).view.dmaCredit

/-- What a cell is paid. -/
noncomputable abbrev units : Cell → ℕ := fun | 0 => 1 | 1 => N0 | 2 => N1 | 3 => N0 | 4 => N1

theorem units_pos : ∀ k : Cell, 0 < units k := fun
  | 0 => Nat.one_pos
  | 1 => View.dmaCredit_pos _ (by decide)
  | 2 => View.dmaCredit_pos _ (by decide)
  | 3 => View.dmaCredit_pos _ (by decide)
  | 4 => View.dmaCredit_pos _ (by decide)

/-! ## Contents -/

/-- Buffer `b` of device `c`, whole, at `f`. -/
noncomputable abbrev pt (c : Dev nD) (b : Ref sig .tc) (f : Buf (Elt F) ((c : Thread nD τ).loc b)) : sProp 𝕄 :=
  ((c : Thread nD τ).loc b) ↦{fullShare} f

/-- The same at contents not chosen. -/
noncomputable abbrev ptAny (c : Dev nD) (b : Ref sig .tc) : sProp 𝕄 :=
  iprop(∃ f : Buf (Elt F) ((c : Thread nD τ).loc b), ((c : Thread nD τ).loc b) ↦{fullShare} f)

omit [FloatOps F] [Named F] in
theorem whole_pts (c : Dev nD) (b : Ref sig .tc) (f : Buf (Elt F) ((c : Thread nD τ).loc b)) :
    ((Memref.whole b).view.loc (c : Thread nD τ) ↦[(Memref.whole b).view.set]{fullShare} f : sProp 𝕄) = pt c b f := by
  rw [View.set_whole]

-- `A`: the numerators each device brings to the exchange; `B`: the denominators.
variable (A : Dev nD → FVec F S8x8x16x128 .f32) (B : Dev nD → FVec F S8x16x8 .f32)

/-! ## The schedule -/

/-- What each cell is paid with. -/
noncomputable def pay (c : Dev nD) : Cell → sProp 𝕄 := fun
  | 0 => iprop((ptAny (mate c) cc1_scratch0 ∗ ptAny (mate c) cc1_scratch1)
      ∗ reached ER (gcell (mate c) 3) 0 ∗ reached ER (gcell (mate c) 4) 0)
  | 1 => pt c cc1_stg0_0 (A c)
  | 2 => pt c cc1_stg1_0 (B c)
  | 3 => pt c cc1_scratch0 (A (mate c))
  | 4 => pt c cc1_scratch1 (B (mate c))

instance pay_storable (c : Dev nD) (k : Cell) : BI.Storable (upEmb : UEmb _ 𝕄) (pay A B c k) := by
  fin_cases k <;> unfold pay <;> infer_instance

/-- One duty in round 0 of every cell, none later. -/
noncomputable def sched : Rounds.Schedule (GSem nD τ sig) Unit 𝕄 where
  duties g r := if r = 0 ∧ g.1.2 = .tc ∧ (cellAt g.2).isSome then {()} else ∅
  unitless _ := False
  amount g _ _ := match cellAt g.2 with | some k => units k | none => 1
  payload g _ _ := match cellAt g.2 with | some k => pay A B g.1.1 k | none => iprop(emp)
  amount_pos g _ _ _ := by
    split
    · exact units_pos _
    · exact Nat.one_pos

instance sched_storable (g : GSem nD τ sig) (r : ℕ) (d : Unit) :
    BI.Storable (upEmb : UEmb _ 𝕄) ((sched A B).payload g r d) := by
  show BI.Storable upEmb (match cellAt g.2 with | some k => pay A B g.1.1 k | none => iprop(emp))
  split <;> infer_instance

section Sched

variable (c : Dev nD) (k : Cell)

omit [FloatOps F] [Named F] in
theorem duties_eq : (sched A B).duties (gcell c k) 0 = {()} := by
  dsimp only [sched]
  exact if_pos ⟨rfl, rfl, by rw [cellAt_semOf]; rfl⟩

omit [FloatOps F] [Named F] in
theorem duties_later (g : GSem nD τ sig) : ∀ r, 1 ≤ r → (sched A B).duties g r = ∅ :=
  fun r hr => by dsimp only [sched]; exact if_neg fun h => by omega

omit [FloatOps F] [Named F] in
theorem duty_mem : () ∈ (sched A B).duties (gcell c k) 0 := by
  rw [duties_eq]; exact Finset.mem_singleton_self _

omit [FloatOps F] [Named F] in
theorem amount_eq (u : Unit) : (sched A B).amount (gcell c k) 0 u = units k := by
  dsimp only [sched]; rw [cellAt_semOf]

omit [FloatOps F] [Named F] in
theorem payload_eq (u : Unit) : (sched A B).payload (gcell c k) 0 u = pay A B c k := by
  dsimp only [sched]; rw [cellAt_semOf]

omit [FloatOps F] [Named F] in
theorem expect_eq : (sched A B).expect (gcell c k) 0 = units k := by
  unfold Schedule.expect Schedule.amountOf
  rw [duties_eq, Finset.sum_singleton, amount_eq]

omit [FloatOps F] [Named F] in
theorem rest_eq : bigSep ((sched A B).duties (gcell c k) 0 \ ∅) (fun u => (sched A B).payload (gcell c k) 0 u) = pay A B c k := by
  rw [Finset.sdiff_empty, duties_eq, bigSep_singleton, payload_eq]

end Sched

/-! ## Dues and levels -/

/-- What device `c` owes its mate before the copies: the two landing credits. -/
noncomputable def dueCopies (c : Dev nD) : CellTallies nD τ sig Unit :=
  tallyAt (gcell (mate c) 4) () N1 + tallyAt (gcell (mate c) 3) () N0

/-- What it owes from launch: those, and the barrier unit. -/
noncomputable def due (c : Dev nD) : CellTallies nD τ sig Unit := dueCopies c + tallyAt (gcell (mate c) 0) () 1

noncomputable def L (g : GSem nD τ sig) : Finset Unit := if g.1.2 = .tc then {()} else ∅
/-- Barrier cells at 1, landing cells at 2, every other cell at 0. -/
noncomputable def lv (g : GSem nD τ sig) (_ : Unit) : ℕ :=
  if g.2 = semOf 0 then 1 else if g.2 = semOf 3 ∨ g.2 = semOf 4 then 2 else 0

theorem lv_bar (c : Dev nD) (u : Unit) : lv (gcell c 0) u = 1 := if_pos rfl
theorem lv_landed0 (c : Dev nD) (u : Unit) : lv (gcell c 3) u = 2 := (if_neg (show semOf 3 ≠ semOf 0 by decide)).trans (if_pos (.inl rfl))
theorem lv_landed1 (c : Dev nD) (u : Unit) : lv (gcell c 4) u = 2 := (if_neg (show semOf 4 ≠ semOf 0 by decide)).trans (if_pos (.inr rfl))

theorem L_of_ne (g : GSem nD τ sig) (h : g.1.2 ≠ .tc) : L g = ∅ := if_neg h
theorem L_tc (c : Dev nD) (s : SemLoc sig) : () ∈ L ((c : Thread nD τ), s) := by
  unfold L; rw [if_pos rfl]; exact Finset.mem_singleton_self _

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem dueCopies_pos {c : Dev nD} {g : GSem nD τ sig} {u : Unit} (h : 0 < dueCopies c g u) :
    g = gcell (mate c) 3 ∨ g = gcell (mate c) 4 := by
  unfold dueCopies at h
  rw [Pi.add_apply, Finsupp.add_apply] at h
  rcases Nat.add_pos_iff_pos_or_pos.mp h with h | h
  · exact .inr (tallyAt_pos h)
  · exact .inl (tallyAt_pos h)

theorem due_pos {c : Dev nD} {g : GSem nD τ sig} {u : Unit} (h : 0 < due c g u) :
    g = gcell (mate c) 0 ∨ g = gcell (mate c) 3 ∨ g = gcell (mate c) 4 := by
  unfold due at h
  rw [Pi.add_apply, Finsupp.add_apply] at h
  rcases Nat.add_pos_iff_pos_or_pos.mp h with h | h
  · exact .inr (dueCopies_pos h)
  · exact .inl (tallyAt_pos h)

/-- Everything a device may owe is a cell of a level above 0. -/
theorem due_level {c : Dev nD} {g : GSem nD τ sig} {u : Unit} (h : 0 < due c g u) : u ∈ L g ∧ 0 < lv g u := by
  rcases due_pos h with rfl | rfl | rfl
  · exact ⟨L_tc _ _, by rw [lv_bar]; decide⟩
  · exact ⟨L_tc _ _, by rw [lv_landed0]; decide⟩
  · exact ⟨L_tc _ _, by rw [lv_landed1]; decide⟩

omit [FloatOps F] [Named F] in
/-- A device may wait on its barrier while it owes the copies. -/
theorem mayWait_bar (c : Dev nD) :
    (levAts L lv : sProp 𝕄) ⊢ MayWait (c : Thread nD τ) (.reg barrier0) () (dueCopies c) :=
  MayOwe.of_cut (L := L) (lev := lv) 1 (fun p hp => by rw [Finset.mem_singleton.mp hp]; exact L_tc _ _)
    (fun g u hg => by rcases dueCopies_pos hg with rfl | rfl <;> exact L_tc _ _)
    (fun p hp => by rw [Finset.mem_singleton.mp hp]; exact le_of_eq (lv_bar c ()))
    (fun g u hg => by
      rcases dueCopies_pos hg with rfl | rfl
      · rw [lv_landed0]; decide
      · rw [lv_landed1]; decide)

/-! ## The ghost state a device holds -/

/-- The invariants device `c` opens: its own five cells', and three of the mate's. -/
noncomputable def invs (K : GSem nD τ sig → ℕ) (c : Dev nD) : sProp 𝕄 :=
  iprop((cellInv ER (sched A B) (K (gcell c 0)) (gcell c 0) ∗ cellInv ER (sched A B) (K (gcell c 1)) (gcell c 1)
      ∗ cellInv ER (sched A B) (K (gcell c 2)) (gcell c 2) ∗ cellInv ER (sched A B) (K (gcell c 3)) (gcell c 3)
      ∗ cellInv ER (sched A B) (K (gcell c 4)) (gcell c 4))
    ∗ (cellInv ER (sched A B) (K (gcell (mate c) 0)) (gcell (mate c) 0)
      ∗ cellInv ER (sched A B) (K (gcell (mate c) 3)) (gcell (mate c) 3)
      ∗ cellInv ER (sched A B) (K (gcell (mate c) 4)) (gcell (mate c) 4)))

instance invs_persistent (K : GSem nD τ sig → ℕ) (c : Dev nD) : BI.Persistent (invs A B K c) := by
  unfold invs; infer_instance

/-- The tokens of the five duties device `c` pays. -/
noncomputable def toks (c : Dev nD) : sProp 𝕄 :=
  iprop(dutyTok ER (gcell (mate c) 0) 0 () ∗ dutyTok ER (gcell c 1) 0 () ∗ dutyTok ER (gcell c 2) 0 ()
    ∗ dutyTok ER (gcell (mate c) 3) 0 () ∗ dutyTok ER (gcell (mate c) 4) 0 ())

/-- The launch credit device `c` waits with. -/
noncomputable def creds (c : Dev nD) : sProp 𝕄 :=
  iprop(cred (tallyAt (gcell c 0) () 1) ∗ cred (tallyAt (gcell c 3) () N0) ∗ cred (tallyAt (gcell c 4) () N1))

/-- From launch to the second kernel: the barrier cell is open, the four copy cells are not yet. -/
noncomputable def ghost (K : GSem nD τ sig → ℕ) (c : Dev nD) : sProp 𝕄 :=
  iprop(invs A B K c ∗ atPos ER (gcell c 0) 0 ∅ 0
    ∗ (openTok ER (gcell c 1) ∗ openTok ER (gcell c 2) ∗ openTok ER (gcell c 3) ∗ openTok ER (gcell c 4))
    ∗ reached ER (gcell (mate c) 0) 0 ∗ toks c)

/-- In the second kernel: all five open. -/
noncomputable def opened (K : GSem nD τ sig → ℕ) (c : Dev nD) : sProp 𝕄 :=
  iprop(invs A B K c
    ∗ (atPos ER (gcell c 0) 0 ∅ 0 ∗ atPos ER (gcell c 1) 0 ∅ 0 ∗ atPos ER (gcell c 2) 0 ∅ 0
      ∗ atPos ER (gcell c 3) 0 ∅ 0 ∗ atPos ER (gcell c 4) 0 ∅ 0)
    ∗ (reached ER (gcell (mate c) 0) 0 ∗ reached ER (gcell c 1) 0 ∗ reached ER (gcell c 2) 0
      ∗ reached ER (gcell c 3) 0 ∗ reached ER (gcell c 4) 0)
    ∗ toks c)

/-- The four copy cells' counters. -/
noncomputable def copySems (c : Dev nD) : sProp 𝕄 :=
  iprop(semVal (gcell c 1) 0 ∗ semVal (gcell c 2) 0 ∗ semVal (gcell c 3) 0 ∗ semVal (gcell c 4) 0)

omit [FloatOps F] [Named F] in
theorem close (κ : ℕ) (g : GSem nD τ sig) :
    iprop(cellInv ER (sched A B) κ g ∗ atPos ER g (0 + 1) ∅ 0) ⊢ (|={Set.univ}=> semVal g 0 : sProp 𝕄) :=
  Rounds.cell_close ER (sched A B) (Set.mem_univ κ) id (duties_later A B g)

omit [FloatOps F] [Named F] in
/-- The copy cells' counters, surrendered at zero, open the four cells. -/
theorem open_all (K : GSem nD τ sig → ℕ) (c : Dev nD) :
    iprop(ghost A B K c ∗ copySems c) ⊢ (|={Set.univ}=> opened A B K c : sProp 𝕄) := by
  unfold ghost copySems opened
  iintro ⟨⟨#Hinv, Hb, ⟨H1, H2, H3, H4⟩, #Hr, Ht⟩, V1, V2, V3, V4⟩
  unfold invs
  icases Hinv with ⟨⟨#I0, #I1, #I2, #I3, #I4⟩, #J⟩
  imod (Rounds.cell_open ER (sched A B) (g := gcell c 1) (Set.mem_univ (K (gcell c 1)))) $$ [H1 V1] with ⟨P1, #R1⟩
  · isplitr; · iexact I1
    isplitl [H1] <;> iassumption
  imod (Rounds.cell_open ER (sched A B) (g := gcell c 2) (Set.mem_univ (K (gcell c 2)))) $$ [H2 V2] with ⟨P2, #R2⟩
  · isplitr; · iexact I2
    isplitl [H2] <;> iassumption
  imod (Rounds.cell_open ER (sched A B) (g := gcell c 3) (Set.mem_univ (K (gcell c 3)))) $$ [H3 V3] with ⟨P3, #R3⟩
  · isplitr; · iexact I3
    isplitl [H3] <;> iassumption
  imod (Rounds.cell_open ER (sched A B) (g := gcell c 4) (Set.mem_univ (K (gcell c 4)))) $$ [H4 V4] with ⟨P4, #R4⟩
  · isplitr; · iexact I4
    isplitl [H4] <;> iassumption
  imodintro
  isplitr
  · isplitr
    · isplitr; · iexact I0
      isplitr; · iexact I1
      isplitr; · iexact I2
      isplitr; · iexact I3
      iexact I4
    iexact J
  isplitl [Hb P1 P2 P3 P4]
  · isplitl [Hb]; · iexact Hb
    isplitl [P1]; · iexact P1
    isplitl [P2]; · iexact P2
    isplitl [P3] <;> iassumption
  isplitr
  · isplitr; · iexact Hr
    isplitr; · iexact R1
    isplitr; · iexact R2
    isplitr; · iexact R3
    iexact R4
  iexact Ht

/-! ## The steps of the exchange -/

abbrev 𝒱₀ : Variants := Variants.none

section Steps

variable (K : GSem nD τ sig → ℕ) (c : Dev nD)

/-- Waiting for a copy cell, owing nothing: what the cell was paid with comes back. -/
theorem wp_wait_copy (k : Cell) {q : DmaSem sig} (hq : semOf k = .dma q) {s s' : Shape} {e e' : EltTy} {sp sp' : Space}
    {src : Memref sig .tc sp s e} {dst : Memref sig .tc sp' s' e'} {h₁ : src.view.WordExact} {h₂ : dst.view.WordExact}
    (hamt : units k = dst.view.dmaCredit)
    (W : Waits sig Unit) {α : Type} {Q : α → sProp 𝕄} {cont : PUnit → Prog (TpuEff nD τ sig (Elt F) Λ₀ .tc) α} :
    iprop(cellInv ER (sched A B) (K (gcell c k)) (gcell c k) ∗ cred (tallyAt (gcell c k) () (units k))
        ∗ owes (c : Thread nD τ) 0 W ∗ atPos ER (gcell c k) 0 ∅ 0)
      ⊢ iprop(((owes (c : Thread nD τ) 0 (insert (semOf k, ()) W) ∗ atPos ER (gcell c k) (0 + 1) ∅ 0 ∗ pay A B c k)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 q src dst h₁ h₂) cont) Q) := by
  have hexp : (sched A B).expect ((c : Thread nD τ), .dma q) 0 = units k := hq ▸ expect_eq A B c k
  have hrest : bigSep ((sched A B).duties ((c : Thread nD τ), .dma q) 0 \ ∅) (fun u => (sched A B).payload ((c : Thread nD τ), .dma q) 0 u)
      = pay A B c k := hq ▸ rest_eq A B c k
  have hneed : 0 + dst.view.dmaCredit = (sched A B).expect ((c : Thread nD τ), .dma q) 0 := by rw [Nat.zero_add, hexp, hamt]
  simp only [gcell]
  rw [hq, hamt]
  iintro ⟨#HI, Hc, HO, Hat⟩ Hk
  iapply (Rounds.wp_wait_rest_token 𝒱₀ ER (sched A B) (c : Thread nD τ) none (κ := K ((c : Thread nD τ), .dma q))
      (wpE_waitDma2_eq (src := src) (dst := dst) 𝒱₀ (c : Thread nD τ) none Set.univ) (Set.mem_univ _) () (O := 0) (W := W) (R := 0) (m := 0) (T := ∅)
      hneed) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq hrest) $$ Hpay
  iapply Hk
  isplitl [HO]; · iexact HO
  isplitl [Hat] <;> iassumption

/-- The barrier signal to the mate: it carries the two landing buffers, at whatever they hold. -/
theorem wp_signal_mate (n : Dev nD) (hn : n = mate c) (W : Waits sig Unit)
    {α : Type} {Q : α → sProp 𝕄} {cont : PUnit → Prog (TpuEff nD τ sig (Elt F) Λ₀ .tc) α} :
    iprop(cellInv ER (sched A B) (K (gcell (mate c) 0)) (gcell (mate c) 0) ∗ owes (c : Thread nD τ) (due c) W
        ∗ dutyTok ER (gcell (mate c) 0) 0 () ∗ (ptAny (F := F) c cc1_scratch0 ∗ ptAny c cc1_scratch1)
        ∗ (reached ER (gcell c 3) 0 ∗ reached ER (gcell c 4) 0) ∗ reached ER (gcell (mate c) 0) 0)
      ⊢ iprop((owes (c : Thread nD τ) (dueCopies c) W
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barrier0 (1#32 : BitVec 32).toInt) cont) Q) := by
  subst hn
  have hamt : (sched A B).amount (gcell (mate c) 0) 0 () = (1#32 : BitVec 32).toInt.toNat := (amount_eq A B (mate c) 0 ()).trans (by decide)
  iintro ⟨#HI, HO, Ht, Hb, ⟨#R3, #R4⟩, #HR⟩ Hk
  iapply (Rounds.wp_signal 𝒱₀ ER (sched A B) (c : Thread nD τ) none (dst := (mate c : Thread nD τ)) (κ := K (gcell (mate c) 0))
      (duty_mem A B (mate c) 0) hamt () (dueCopies c) rfl) $$ [HO Ht Hb]
  · isplitr; · iexact HI
    isplitl [HO]; · iexact HO
    isplitl [Ht]; · iexact Ht
    isplitl [Hb]
    · rw [show (sched A B).payload ((mate c : Thread nD τ), .reg barrier0) 0 () = pay A B (mate c) 0 from payload_eq A B (mate c) 0 ()]
      unfold pay; dsimp only; rw [mate_mate]
      isplitl [Hb]; · iexact Hb
      isplitr; · iexact R3
      iexact R4
    iexact HR
  iexact Hk

/-- The barrier wait, owing the two copies: the mate's landing buffers come back. -/
theorem wp_wait_mate (W : Waits sig Unit) {α : Type} {Q : α → sProp 𝕄} {cont : PUnit → Prog (TpuEff nD τ sig (Elt F) Λ₀ .tc) α} :
    iprop(cellInv ER (sched A B) (K (gcell c 0)) (gcell c 0) ∗ cred (tallyAt (gcell c 0) () 1)
        ∗ owes (c : Thread nD τ) (dueCopies c) W ∗ levAts L lv ∗ atPos ER (gcell c 0) 0 ∅ 0)
      ⊢ iprop(((owes (c : Thread nD τ) (dueCopies c) (insert (semOf 0, ()) W) ∗ atPos ER (gcell c 0) (0 + 1) ∅ 0 ∗ pay A B c 0)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semWait barrier0 (1#32 : BitVec 32).toInt) cont) Q) := by
  have hneed : 0 + (1#32 : BitVec 32).toInt.toNat = (sched A B).expect (gcell c 0) 0 := by rw [Nat.zero_add, expect_eq A B c 0]; decide
  iintro ⟨#HI, Hc, HO, #Hlev, Hat⟩ Hk
  iapply (Rounds.wp_wait_rest_token 𝒱₀ ER (sched A B) (c : Thread nD τ) none (κ := K (gcell c 0))
      (wpE_semWait_eq 𝒱₀ (c : Thread nD τ) none Set.univ) (Set.mem_univ _) () (O := dueCopies c) (W := W) (R := 0) (m := 0) (T := ∅)
      hneed) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_eq A B c 0)) $$ Hpay
  iapply Hk
  isplitl [HO]; · iexact HO
  isplitl [Hat] <;> iassumption

omit [FloatOps F] [Named F] in
/-- The first copy's source is what its sender gets back. -/
theorem source0 : ((Memref.whole cc1_stg0_0).view.loc (c : Thread nD τ) ↦[(Memref.whole cc1_stg0_0).view.set]{fullShare} (A c) : sProp 𝕄)
    ⊢ pay A B c 1 := by
  unfold pay; dsimp only; exact Entails.of_eq (whole_pts c cc1_stg0_0 (A c))

omit [FloatOps F] [Named F] in
theorem source1 : ((Memref.whole cc1_stg1_0).view.loc (c : Thread nD τ) ↦[(Memref.whole cc1_stg1_0).view.set]{fullShare} (B c) : sProp 𝕄)
    ⊢ pay A B c 2 := by
  unfold pay; dsimp only; exact Entails.of_eq (whole_pts c cc1_stg1_0 (B c))

omit [FloatOps F] [Named F] in
/-- Where the first copy lands the mate finds the sender's numerators. -/
theorem landed0 (fn : Buf (Elt F) ((mate c : Thread nD τ).loc cc1_scratch0)) :
    ((Memref.whole cc1_scratch0).view.loc (mate c : Thread nD τ) ↦[(Memref.whole cc1_scratch0).view.set]{fullShare}
        ((Memref.whole cc1_scratch0 : Memref sig .tc .vmem S8x8x16x128 .f32).view.write (Elt F) fn
          ((Memref.whole cc1_stg0_0 : Memref sig .tc .vmem S8x8x16x128 .f32).view.read (Elt F) (A c)) Finset.univ) : sProp 𝕄)
      ⊢ pay A B (mate c) 3 := by
  have e : (Memref.whole cc1_scratch0 : Memref sig .tc .vmem S8x8x16x128 .f32).view.write (Elt F) fn
      ((Memref.whole cc1_stg0_0 : Memref sig .tc .vmem S8x8x16x128 .f32).view.read (Elt F) (A c)) Finset.univ = A c := by
    show (View.whole cc1_scratch0).write (Elt F) fn ((View.whole cc1_stg0_0).read (Elt F) (A c)) Finset.univ = A c
    rw [View.read_whole]; exact View.write_whole_univ _ _ _
  rw [e]
  unfold pay; dsimp only; rw [mate_mate]
  exact Entails.of_eq (whole_pts (mate c) cc1_scratch0 (A c))

omit [FloatOps F] [Named F] in
theorem landed1 (fn : Buf (Elt F) ((mate c : Thread nD τ).loc cc1_scratch1)) :
    ((Memref.whole cc1_scratch1).view.loc (mate c : Thread nD τ) ↦[(Memref.whole cc1_scratch1).view.set]{fullShare}
        ((Memref.whole cc1_scratch1 : Memref sig .tc .vmem S8x16x8 .f32).view.write (Elt F) fn
          ((Memref.whole cc1_stg1_0 : Memref sig .tc .vmem S8x16x8 .f32).view.read (Elt F) (B c)) Finset.univ) : sProp 𝕄)
      ⊢ pay A B (mate c) 4 := by
  have e : (Memref.whole cc1_scratch1 : Memref sig .tc .vmem S8x16x8 .f32).view.write (Elt F) fn
      ((Memref.whole cc1_stg1_0 : Memref sig .tc .vmem S8x16x8 .f32).view.read (Elt F) (B c)) Finset.univ = B c := by
    show (View.whole cc1_scratch1).write (Elt F) fn ((View.whole cc1_stg1_0).read (Elt F) (B c)) Finset.univ = B c
    rw [View.read_whole]; exact View.write_whole_univ _ _ _
  rw [e]
  unfold pay; dsimp only; rw [mate_mate]
  exact Entails.of_eq (whole_pts (mate c) cc1_scratch1 (B c))

/-- A copy to the mate whose source is what cell `k₁` is paid with and whose landing is what the mate's cell `k₂`
    is paid with. -/
theorem wp_copy (k₁ k₂ : Cell) {q₁ q₂ : DmaSem sig} (hq₁ : semOf k₁ = .dma q₁) (hq₂ : semOf k₂ = .dma q₂)
    {s : Shape} {e : EltTy} {sp sp' : Space} {src : Memref sig .tc sp s e} (n : Dev nD) (hn : n = mate c)
    {dst : Memref sig (Dev.tc n : Thread nD τ).2.kind sp' s e} {hsc : dst.view.ref.isScScratch = false}
    {hsrc : src.view.WordExact} {hdst : dst.view.WordExact}
    {hsem : DmaTarget.Typed sp (.dma q₂) (.remote (Dev.tc n : Thread nD τ) dst (.dma q₁) hsc)}
    (N : ℕ) (hN : dst.view.amount (.dma q₂) = N) (h₁ : units k₁ = N) (h₂ : units k₂ = N)
    {fs : Buf (Elt F) (src.view.loc (c : Thread nD τ))} {fn : Buf (Elt F) (dst.view.loc (Dev.tc n : Thread nD τ))}
    (hpay₁ : (src.view.loc (c : Thread nD τ) ↦[src.view.set]{fullShare} fs : sProp 𝕄) ⊢ pay A B c k₁)
    (hpay₂ : (dst.view.loc (Dev.tc n : Thread nD τ) ↦[dst.view.set]{fullShare} (dst.view.write (Elt F) fn (src.view.read (Elt F) fs) Finset.univ) : sProp 𝕄)
      ⊢ pay A B (mate c) k₂)
    (O : CellTallies nD τ sig Unit) (W : Waits sig Unit)
    {α : Type} {Q : α → sProp 𝕄} {cont : PUnit → Prog (TpuEff nD τ sig (Elt F) Λ₀ .tc) α} :
    iprop(cellInv ER (sched A B) (K (gcell c k₁)) (gcell c k₁) ∗ cellInv ER (sched A B) (K (gcell (mate c) k₂)) (gcell (mate c) k₂)
        ∗ (src.view.loc (c : Thread nD τ) ↦[src.view.set]{fullShare} fs)
        ∗ (dst.view.loc (Dev.tc n : Thread nD τ) ↦[dst.view.set]{fullShare} fn)
        ∗ owes (c : Thread nD τ) (O + tallyAt (gcell (mate c) k₂) () N) W
        ∗ dutyTok ER (gcell c k₁) 0 () ∗ reached ER (gcell c k₁) 0 ∗ dutyTok ER (gcell (mate c) k₂) 0 () ∗ reached ER (gcell (mate c) k₂) 0)
      ⊢ iprop(((cred (tallyAt (gcell c k₁) () N) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) cont) Q) := by
  subst hn
  have d₁ : () ∈ (sched A B).duties ((c : Thread nD τ), .dma q₁) 0 := hq₁ ▸ duty_mem A B c k₁
  have d₂ : () ∈ (sched A B).duties ((mate c : Thread nD τ), .dma q₂) 0 := hq₂ ▸ duty_mem A B (mate c) k₂
  have a₁ : (sched A B).amount ((c : Thread nD τ), .dma q₁) 0 () = N := h₁ ▸ hq₁ ▸ amount_eq A B c k₁ ()
  have a₂ : (sched A B).amount ((mate c : Thread nD τ), .dma q₂) 0 () = N := h₂ ▸ hq₂ ▸ amount_eq A B (mate c) k₂ ()
  have p₁ : (sched A B).payload ((c : Thread nD τ), .dma q₁) 0 () = pay A B c k₁ := hq₁ ▸ payload_eq A B c k₁ ()
  have p₂ : (sched A B).payload ((mate c : Thread nD τ), .dma q₂) 0 () = pay A B (mate c) k₂ := hq₂ ▸ payload_eq A B (mate c) k₂ ()
  simp only [gcell]
  rw [hq₁, hq₂]
  exact Rounds.wp_send_pointsTo 𝒱₀ ER (sched A B) (c : Thread nD τ) none (κ₁ := K ((c : Thread nD τ), .dma q₁)) (κ₂ := K ((mate c : Thread nD τ), .dma q₂))
    (r₁ := 0) (r₂ := 0) (d₁ := ()) (d₂ := ()) (fd := fn) d₁ d₂ () () N hN a₁ a₂ O rfl (W := W)
    (by rw [p₁]; exact hpay₁) (by rw [p₂]; exact hpay₂)

/-- The first copy: the numerators. -/
theorem wp_send0 (n : Dev nD) (hn : n = mate c)
    {hsc : (Memref.whole cc1_scratch0 : Memref sig (Dev.tc n : Thread nD τ).2.kind .vmem S8x8x16x128 .f32).view.ref.isScScratch = false}
    {hsrc : (Memref.whole cc1_stg0_0 : Memref sig .tc .vmem S8x8x16x128 .f32).view.WordExact}
    {hdst : (Memref.whole cc1_scratch0 : Memref sig .tc .vmem S8x8x16x128 .f32).view.WordExact}
    {hsem : DmaTarget.Typed .vmem (.dma 15) (.remote (Dev.tc n : Thread nD τ) (Memref.whole cc1_scratch0 : Memref sig .tc .vmem S8x8x16x128 .f32) (.dma 13) hsc)}
    (fn : Buf (Elt F) ((mate c : Thread nD τ).loc cc1_scratch0)) (W : Waits sig Unit)
    {α : Type} {Q : α → sProp 𝕄} {cont : PUnit → Prog (TpuEff nD τ sig (Elt F) Λ₀ .tc) α} :
    iprop(cellInv ER (sched A B) (K (gcell c 1)) (gcell c 1) ∗ cellInv ER (sched A B) (K (gcell (mate c) 3)) (gcell (mate c) 3)
        ∗ pt c cc1_stg0_0 (A c) ∗ pt (mate c) cc1_scratch0 fn ∗ owes (c : Thread nD τ) (tallyAt (gcell (mate c) 4) () N1 + tallyAt (gcell (mate c) 3) () N0) W
        ∗ dutyTok ER (gcell c 1) 0 () ∗ reached ER (gcell c 1) 0 ∗ dutyTok ER (gcell (mate c) 3) 0 () ∗ reached ER (gcell (mate c) 3) 0)
      ⊢ iprop(((cred (tallyAt (gcell c 1) () N0) ∗ owes (c : Thread nD τ) (tallyAt (gcell (mate c) 4) () N1) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (Memref.whole cc1_stg0_0 : Memref sig .tc .vmem S8x8x16x128 .f32)
                (.remote (Dev.tc n : Thread nD τ) (Memref.whole cc1_scratch0 : Memref sig .tc .vmem S8x8x16x128 .f32) (.dma 13) hsc) (.dma 15) hsrc hdst hsem) cont) Q) := by
  subst hn
  have h := wp_copy A B K c 1 3 (q₁ := 13) (q₂ := 15) rfl rfl
    (src := (Memref.whole cc1_stg0_0 : Memref sig .tc .vmem S8x8x16x128 .f32)) (mate c) rfl
    (dst := (Memref.whole cc1_scratch0 : Memref sig .tc .vmem S8x8x16x128 .f32)) (hsc := hsc) (hsrc := hsrc) (hdst := hdst) (hsem := hsem)
    N0 rfl rfl rfl (fs := A c) (fn := fn) (source0 A B c) (landed0 A B c fn) (tallyAt (gcell (mate c) 4) () N1) W (Q := Q) (cont := cont)
  iintro ⟨H1, H2, Hs, Hd, Hrest⟩
  iapply h $$ [H1 H2 Hs Hd Hrest]
  isplitl [H1]; · iexact H1
  isplitl [H2]; · iexact H2
  isplitl [Hs]; · iapply (Entails.of_eq (whole_pts c cc1_stg0_0 (A c)).symm); iexact Hs
  isplitl [Hd]; · iapply (Entails.of_eq (whole_pts (mate c) cc1_scratch0 fn).symm); iexact Hd
  iexact Hrest

/-- The second copy: the denominators. -/
theorem wp_send1 (n : Dev nD) (hn : n = mate c)
    {hsc : (Memref.whole cc1_scratch1 : Memref sig (Dev.tc n : Thread nD τ).2.kind .vmem S8x16x8 .f32).view.ref.isScScratch = false}
    {hsrc : (Memref.whole cc1_stg1_0 : Memref sig .tc .vmem S8x16x8 .f32).view.WordExact}
    {hdst : (Memref.whole cc1_scratch1 : Memref sig .tc .vmem S8x16x8 .f32).view.WordExact}
    {hsem : DmaTarget.Typed .vmem (.dma 16) (.remote (Dev.tc n : Thread nD τ) (Memref.whole cc1_scratch1 : Memref sig .tc .vmem S8x16x8 .f32) (.dma 14) hsc)}
    (fn : Buf (Elt F) ((mate c : Thread nD τ).loc cc1_scratch1)) (W : Waits sig Unit)
    {α : Type} {Q : α → sProp 𝕄} {cont : PUnit → Prog (TpuEff nD τ sig (Elt F) Λ₀ .tc) α} :
    iprop(cellInv ER (sched A B) (K (gcell c 2)) (gcell c 2) ∗ cellInv ER (sched A B) (K (gcell (mate c) 4)) (gcell (mate c) 4)
        ∗ pt c cc1_stg1_0 (B c) ∗ pt (mate c) cc1_scratch1 fn ∗ owes (c : Thread nD τ) (0 + tallyAt (gcell (mate c) 4) () N1) W
        ∗ dutyTok ER (gcell c 2) 0 () ∗ reached ER (gcell c 2) 0 ∗ dutyTok ER (gcell (mate c) 4) 0 () ∗ reached ER (gcell (mate c) 4) 0)
      ⊢ iprop(((cred (tallyAt (gcell c 2) () N1) ∗ owes (c : Thread nD τ) (0) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (Memref.whole cc1_stg1_0 : Memref sig .tc .vmem S8x16x8 .f32)
                (.remote (Dev.tc n : Thread nD τ) (Memref.whole cc1_scratch1 : Memref sig .tc .vmem S8x16x8 .f32) (.dma 14) hsc) (.dma 16) hsrc hdst hsem) cont) Q) := by
  subst hn
  have h := wp_copy A B K c 2 4 (q₁ := 14) (q₂ := 16) rfl rfl
    (src := (Memref.whole cc1_stg1_0 : Memref sig .tc .vmem S8x16x8 .f32)) (mate c) rfl
    (dst := (Memref.whole cc1_scratch1 : Memref sig .tc .vmem S8x16x8 .f32)) (hsc := hsc) (hsrc := hsrc) (hdst := hdst) (hsem := hsem)
    N1 rfl rfl rfl (fs := B c) (fn := fn) (source1 A B c) (landed1 A B c fn) (0) W (Q := Q) (cont := cont)
  iintro ⟨H1, H2, Hs, Hd, Hrest⟩
  iapply h $$ [H1 H2 Hs Hd Hrest]
  isplitl [H1]; · iexact H1
  isplitl [H2]; · iexact H2
  isplitl [Hs]; · iapply (Entails.of_eq (whole_pts c cc1_stg1_0 (B c)).symm); iexact Hs
  isplitl [Hd]; · iapply (Entails.of_eq (whole_pts (mate c) cc1_scratch1 fn).symm); iexact Hd
  iexact Hrest

end Steps

end Cert.Swap

end
-- ==== Proof.Partials.lean ====
/-
  The first kernel, run once at one grid point: it leaves in its two output blocks, head by
  head, the numerators and the denominators of the attention over the device's keys.
-/
module

public import proofs.«01_k».proof.Proof.Swap
public import Idealize.ShloMosaic.Lib.ValueIdxCore
public import Idealize.ShloMosaic.Lib.Pipeline.FrameBody
public import Idealize.ShloMosaic.Lib.Pipeline.Value
public import Idealize.ShloMosaic.Lib.Pipeline.ValueKit

@[expose] public section

noncomputable section

namespace Cert.Partials

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ Swap.UU ℕ

/-! ## One head's part of each block -/

theorem inbQ (h : Fin 8) : ∀ a, (![0, 0, h.val, 0] : Fin 4 → ℕ) a + S1x8x1x128.size a ≤ S1x8x8x128.size a := by
  revert h; decide
theorem inbK (h : Fin 8) : ∀ a, (![0, 0, h.val, 0] : Fin 4 → ℕ) a + S1x1024x1x128.size a ≤ S1x1024x8x128.size a := by
  revert h; decide
theorem inbL (h : Fin 8) : ∀ a, (![0, h.val, 0] : Fin 3 → ℕ) a + S1x1x8.size a ≤ S1x8x8.size a := by
  revert h; decide

/-- Head `h` of a block of queries (and of a block of numerators). -/
abbrev headQ (h : Fin 8) : Rect S1x8x8x128 := Rect.unit ![0, 0, h.val, 0] S1x8x1x128.size (inbQ h)
/-- Head `h` of a block of keys or of values. -/
abbrev headK (h : Fin 8) : Rect S1x1024x8x128 := Rect.unit ![0, 0, h.val, 0] S1x1024x1x128.size (inbK h)
/-- Head `h` of a block of denominators. -/
abbrev headL (h : Fin 8) : Rect S1x8x8 := Rect.unit ![0, h.val, 0] S1x1x8.size (inbL h)

/-- The numerators of one head. -/
def numHead (X : Vec F S1x8x8x128 .f32) (Y Z : Vec F S1x1024x8x128 .f32) (h : Fin 8) : FVec F S1x8x1x128 .f32 :=
  k0_pay7 (View.ld (Val := Elt F) X (headQ h)) (View.ld (Val := Elt F) Y (headK h)) (View.ld (Val := Elt F) Z (headK h))
/-- The denominators of one head. -/
def denHead (X : Vec F S1x8x8x128 .f32) (Y : Vec F S1x1024x8x128 .f32) (h : Fin 8) : FVec F S1x1x8 .f32 :=
  k0_pay6 (View.ld (Val := Elt F) X (headQ h)) (View.ld (Val := Elt F) Y (headK h))

/-- The block of numerators: at each head, that head's. -/
def num (X : Vec F S1x8x8x128 .f32) (Y Z : Vec F S1x1024x8x128 .f32) : Vec F S1x8x8x128 .f32 :=
  fun y => numHead X Y Z (y 2) (ix4 0 (y 1) 0 (y 3))
/-- The block of denominators: at each head, that head's. -/
def den (X : Vec F S1x8x8x128 .f32) (Y : Vec F S1x1024x8x128 .f32) : Vec F S1x8x8 .f32 :=
  fun y => denHead X Y (y 1) (ix3 0 0 (y 2))

theorem num_head (X : Vec F S1x8x8x128 .f32) (Y Z : Vec F S1x1024x8x128 .f32) (h : Fin 8) (x : (headQ h).shape.Idx) :
    numHead X Y Z h x = num X Y Z ((headQ h).emb x) := by
  have e2 : (headQ h).emb x 2 = h := Fin.ext (by
    have hx : (x 2).val = 0 := Nat.lt_one_iff.mp (x 2).isLt
    show h.val + 1 * (x 2).val = h.val; omega)
  have e : x = ix4 0 ((headQ h).emb x 1) 0 ((headQ h).emb x 3) := by
    funext a
    fin_cases a
    · exact Subsingleton.elim (α := Fin 1) _ _
    · exact Fin.ext (by show (x 1).val = 0 + 1 * (x 1).val; omega)
    · exact Subsingleton.elim (α := Fin 1) _ _
    · exact Fin.ext (by show (x 3).val = 0 + 1 * (x 3).val; omega)
  show _ = numHead X Y Z ((headQ h).emb x 2) (ix4 0 ((headQ h).emb x 1) 0 ((headQ h).emb x 3))
  rw [e2]
  exact congrArg (numHead X Y Z h) e

theorem den_head (X : Vec F S1x8x8x128 .f32) (Y : Vec F S1x1024x8x128 .f32) (h : Fin 8) (x : (headL h).shape.Idx) :
    denHead X Y h x = den X Y ((headL h).emb x) := by
  have e1 : (headL h).emb x 1 = h := Fin.ext (by
    have hx : (x 1).val = 0 := Nat.lt_one_iff.mp (x 1).isLt
    show h.val + 1 * (x 1).val = h.val; omega)
  have e : x = ix3 0 0 ((headL h).emb x 2) := by
    funext a
    fin_cases a
    · exact Subsingleton.elim (α := Fin 1) _ _
    · exact Subsingleton.elim (α := Fin 1) _ _
    · exact Fin.ext (by show (x 2).val = 0 + 1 * (x 2).val; omega)
  show _ = denHead X Y ((headL h).emb x 1) (ix3 0 0 ((headL h).emb x 2))
  rw [e1]
  exact congrArg (denHead X Y h) e

/-- The heads in the order the stores stand in, the last first. -/
abbrev heads : List (Fin 8) := [7, 6, 5, 4, 3, 2, 1, 0]

theorem mem_heads (h : Fin 8) : h ∈ heads := by revert h; decide

/-- The stores into the block of numerators. -/
abbrev numStores (X : Vec F S1x8x8x128 .f32) (Y Z : Vec F S1x1024x8x128 .f32) : List (View.Piece (Elt F) S1x8x8x128 .f32) :=
  heads.map fun h => ⟨headQ h, numHead X Y Z h⟩
/-- The stores into the block of denominators. -/
abbrev denStores (X : Vec F S1x8x8x128 .f32) (Y : Vec F S1x1024x8x128 .f32) : List (View.Piece (Elt F) S1x8x8 .f32) :=
  heads.map fun h => ⟨headL h, denHead X Y h⟩

theorem mem_headQ (y : S1x8x8x128.Idx) : y ∈ (headQ (y 2)).set := by
  rw [Rect.mem_set_unit]
  intro a
  fin_cases a
  · exact ⟨Nat.zero_le _, (y 0).isLt⟩
  · exact ⟨Nat.zero_le _, lt_of_lt_of_le (y 1).isLt (show 8 ≤ 0 + 8 by decide)⟩
  · exact ⟨le_rfl, Nat.lt_succ_self _⟩
  · exact ⟨Nat.zero_le _, lt_of_lt_of_le (y 3).isLt (show 128 ≤ 0 + 128 by decide)⟩

theorem mem_headL (y : S1x8x8.Idx) : y ∈ (headL (y 1)).set := by
  rw [Rect.mem_set_unit]
  intro a
  fin_cases a
  · exact ⟨Nat.zero_le _, (y 0).isLt⟩
  · exact ⟨le_rfl, Nat.lt_succ_self _⟩
  · exact ⟨Nat.zero_le _, lt_of_lt_of_le (y 2).isLt (show 8 ≤ 0 + 8 by decide)⟩

theorem read_numStores {sp : Space} (v : View sig .tc sp S1x8x8x128 .f32) (X : Vec F S1x8x8x128 .f32) (Y Z : Vec F S1x1024x8x128 .f32)
    (f : v.ty.Contents (Elt F)) : v.read (Elt F) (v.writes (Elt F) f (numStores X Y Z)) = num X Y Z := by
  have hc : ∀ y : S1x8x8x128.Idx, ∃ p ∈ numStores X Y Z, y ∈ p.1.set := fun y =>
    ⟨_, List.mem_map_of_mem (mem_heads (y 2)), mem_headQ y⟩
  rw [View.read_writes_eq_canon v f _ hc]
  funext y
  refine View.canon_apply_of_pieces _ _ (fun p hp x => ?_) y (hc y)
  obtain ⟨h, -, rfl⟩ := List.mem_map.mp hp
  exact num_head X Y Z h x

theorem read_denStores {sp : Space} (v : View sig .tc sp S1x8x8 .f32) (X : Vec F S1x8x8x128 .f32) (Y : Vec F S1x1024x8x128 .f32)
    (f : v.ty.Contents (Elt F)) : v.read (Elt F) (v.writes (Elt F) f (denStores X Y)) = den X Y := by
  have hc : ∀ y : S1x8x8.Idx, ∃ p ∈ denStores X Y, y ∈ p.1.set := fun y =>
    ⟨_, List.mem_map_of_mem (mem_heads (y 1)), mem_headL y⟩
  rw [View.read_writes_eq_canon v f _ hc]
  funext y
  refine View.canon_apply_of_pieces _ _ (fun p hp x => ?_) y (hc y)
  obtain ⟨h, -, rfl⟩ := List.mem_map.mp hp
  exact den_head X Y h x

/-! ## The run -/

abbrev pt (c : Dev nD) {S : Shape} (M : Memref sig .tc .vmem S .f32) (f : Buf (Elt F) (M.view.loc (c : Thread nD τ))) : sProp 𝕄 :=
  M.view.loc (c : Thread nD τ) ↦{fullShare} f

set_option maxHeartbeats 1000000 in
theorem run_raw (c : Dev nD) (i : grid0.Coords)
    (M2 : Memref sig .tc .vmem S1x8x8x128 .f32) (h2 : M2.IsWhole) (M3 M4 : Memref sig .tc .vmem S1x1024x8x128 .f32) (h3 : M3.IsWhole) (h4 : M4.IsWhole)
    (M5 : Memref sig .tc .vmem S1x8x8x128 .f32) (h5 : M5.IsWhole) (M6 : Memref sig .tc .vmem S1x8x8 .f32) (h6 : M6.IsWhole)
    (f2 : Buf (Elt F) (M2.view.loc (c : Thread nD τ))) (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ))) (Q : PUnit → sProp 𝕄) :
    iprop(pt c M2 f2 ∗ pt c M3 f3 ∗ pt c M4 f4 ∗ pt c M5 f5 ∗ pt c M6 f6
      ∗ (pt c M2 f2 ∗ pt c M3 f3 ∗ pt c M4 f4
        ∗ pt c M5 (M5.view.writes (Elt F) M5.view.junk (numStores (M2.view.read (Elt F) f2) (M3.view.read (Elt F) f3) (M4.view.read (Elt F) f4)))
        ∗ pt c M6 (M6.view.writes (Elt F) M6.view.junk (denStores (M2.view.read (Elt F) f2) (M3.view.read (Elt F) f3))) -∗ Q ⟨⟩))
    ⊢ wp frame (wpE (defs₀ (F := F)) Variants.none c none) Set.univ
        (cc0__partials_kernel i M2 h2 M3 h3 M4 h4 M5 h5 M6 h6) Q := by
  iintro ⟨H2, H3, H4, H5, H6, Hk⟩
  sl_exec!
  sl_step
  iapply Hk
  isplitl [H2]
  · iexact H2
  isplitl [H3]
  · iexact H3
  isplitl [H4]
  · iexact H4
  isplitl [H5]
  · iexact H5
  · iexact H6

/-- On whole blocks reading `X`, `Y`, `Z`, the kernel leaves the numerators and the denominators. -/
theorem run (c : Dev nD) (i : grid0.Coords)
    (M2 : Memref sig .tc .vmem S1x8x8x128 .f32) (h2 : M2.IsWhole) (M3 M4 : Memref sig .tc .vmem S1x1024x8x128 .f32) (h3 : M3.IsWhole) (h4 : M4.IsWhole)
    (M5 : Memref sig .tc .vmem S1x8x8x128 .f32) (h5 : M5.IsWhole) (M6 : Memref sig .tc .vmem S1x8x8 .f32) (h6 : M6.IsWhole)
    (X : Vec F S1x8x8x128 .f32) (Y Z : Vec F S1x1024x8x128 .f32) (U : Vec F S1x8x8x128 .f32) (W : Vec F S1x8x8 .f32) (Q : PUnit → sProp 𝕄) :
    iprop(owns (c : Thread nD τ) M2 fullShare X ∗ owns (c : Thread nD τ) M3 fullShare Y ∗ owns (c : Thread nD τ) M4 fullShare Z
      ∗ owns (c : Thread nD τ) M5 fullShare U ∗ owns (c : Thread nD τ) M6 fullShare W
      ∗ (owns (c : Thread nD τ) M2 fullShare X ∗ owns (c : Thread nD τ) M3 fullShare Y ∗ owns (c : Thread nD τ) M4 fullShare Z
        ∗ owns (c : Thread nD τ) M5 fullShare (num X Y Z) ∗ owns (c : Thread nD τ) M6 fullShare (den X Y) -∗ Q ⟨⟩))
    ⊢ wp frame (wpE (defs₀ (F := F)) Variants.none c none) Set.univ
        (cc0__partials_kernel i M2 h2 M3 h3 M4 h4 M5 h5 M6 h6) Q := by
  unfold owns
  rw [h2.set_eq_univ, h3.set_eq_univ, h4.set_eq_univ, h5.set_eq_univ, h6.set_eq_univ]
  iintro ⟨⟨%f2, %e2, H2⟩, ⟨%f3, %e3, H3⟩, ⟨%f4, %e4, H4⟩, ⟨%f5, -, H5⟩, ⟨%f6, -, H6⟩, Hk⟩
  subst e2 e3 e4
  iapply (run_raw c i M2 h2 M3 M4 h3 h4 M5 h5 M6 h6 f2 f3 f4 f5 f6 Q)
  isplitl [H2]
  · iexact H2
  isplitl [H3]
  · iexact H3
  isplitl [H4]
  · iexact H4
  isplitl [H5]
  · iexact H5
  isplitl [H6]
  · iexact H6
  iintro ⟨H2, H3, H4, H5, H6⟩
  iapply Hk
  isplitl [H2]
  · iexists f2; isplitr; ipureintro; rfl; iexact H2
  isplitl [H3]
  · iexists f3; isplitr; ipureintro; rfl; iexact H3
  isplitl [H4]
  · iexists f4; isplitr; ipureintro; rfl; iexact H4
  isplitl [H5]
  · iexists (M5.view.writes (Elt F) M5.view.junk (numStores (M2.view.read (Elt F) f2) (M3.view.read (Elt F) f3) (M4.view.read (Elt F) f4)))
    isplitr; ipureintro; exact read_numStores M5.view _ _ _ M5.view.junk; iexact H5
  · iexists (M6.view.writes (Elt F) M6.view.junk (denStores (M2.view.read (Elt F) f2) (M3.view.read (Elt F) f3)))
    isplitr; ipureintro; exact read_denStores M6.view _ _ M6.view.junk; iexact H6

end Cert.Partials

end
-- ==== Proof.Combine.lean ====
/-
  The second kernel, run once on a device: it exchanges partial results with the mate and
  leaves the combined quotient in its output block.
-/
module

public import proofs.«01_k».proof.Proof.Swap

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Dev nD → FVec F S8x8x16x128 .f32) (B : Dev nD → FVec F S8x16x8 .f32)

omit [FloatOps F] [Named F] in
theorem zero4 : (![0, 0, 0, 0] : Fin 4 → Nat) = fun _ => 0 := funext fun a => by fin_cases a <;> rfl
omit [FloatOps F] [Named F] in
theorem zero3 : (![0, 0, 0] : Fin 3 → Nat) = fun _ => 0 := funext fun a => by fin_cases a <;> rfl

/-- What the pair computes: the sum of the numerators over the sum of the denominators. -/
def combined (c : Dev nD) : FVec F S8x8x16x128 .f32 := k1_pay1 (B c) (B (mate c)) (A c) (A (mate c))

abbrev whole4 : Rect S8x8x16x128 := Rect.unit (s := S8x8x16x128) ![0, 0, 0, 0] S8x8x16x128.size inb_S8x8x16x128_S8x8x16x128_0_0_0_0
abbrev whole3 : Rect S8x16x8 := Rect.unit (s := S8x16x8) ![0, 0, 0] S8x16x8.size inb_S8x16x8_S8x16x8_0_0_0

/-- The store writes the combined quotient of what the four loads read. -/
theorem stored (c : Dev nD) (f : FVec F S8x8x16x128 .f32) :
    ((Memref.whole cc1_stg2_0 : Memref sig .tc .vmem S8x8x16x128 .f32).access whole4 : View sig .tc _ _ _).write (Elt F) f
      (k1_pay1 ((Memref.whole cc1_stg1_0 : Memref sig .tc .vmem S8x16x8 .f32).view.readAt (Elt F) whole3.toLoadRect (B c))
        ((Memref.whole cc1_scratch1 : Memref sig .tc .vmem S8x16x8 .f32).view.readAt (Elt F) whole3.toLoadRect (B (mate c)))
        ((Memref.whole cc1_stg0_0 : Memref sig .tc .vmem S8x8x16x128 .f32).view.readAt (Elt F) whole4.toLoadRect (A c))
        ((Memref.whole cc1_scratch0 : Memref sig .tc .vmem S8x8x16x128 .f32).view.readAt (Elt F) whole4.toLoadRect (A (mate c)))) Finset.univ
      = combined A B c := by
  refine (Memref.write_access_unit_zero_univ (Elt F) cc1_stg2_0 zero4 _ f _).trans ?_
  exact congr (congr (congr (congrArg k1_pay1 (Memref.readAt_unit_zero (Elt F) cc1_stg1_0 zero3 _ (B c)))
    (Memref.readAt_unit_zero (Elt F) cc1_scratch1 zero3 _ (B (mate c))))
    (Memref.readAt_unit_zero (Elt F) cc1_stg0_0 zero4 _ (A c)))
    (Memref.readAt_unit_zero (Elt F) cc1_scratch0 zero4 _ (A (mate c)))

/-- What device `c` holds as the kernel starts. -/
def before (K : GSem nD τ sig → ℕ) (c : Dev nD) (W : Waits sig Unit) : sProp 𝕄 :=
  iprop(opened A B K c ∗ creds c ∗ levAts L lv ∗ owes (c : Thread nD τ) (due c) W
    ∗ pt c cc1_stg0_0 (A c) ∗ pt c cc1_stg1_0 (B c) ∗ ptAny (F := F) c cc1_stg2_0
    ∗ ptAny (F := F) c cc1_scratch0 ∗ ptAny (F := F) c cc1_scratch1)

/-- What it holds at the end. -/
def after (c : Dev nD) : sProp 𝕄 :=
  iprop((semVal (gcell c 0) 0 ∗ copySems c) ∗ (∃ W, owes (c : Thread nD τ) 0 W)
    ∗ pt c cc1_stg0_0 (A c) ∗ pt c cc1_stg1_0 (B c) ∗ pt c cc1_stg2_0 (combined A B c)
    ∗ ptAny (F := F) c cc1_scratch0 ∗ ptAny (F := F) c cc1_scratch1)

set_option maxHeartbeats 400000 in
theorem combine_run (K : GSem nD τ sig → ℕ) (c : Dev nD) (W : Waits sig Unit) (Kt : PUnit → sProp 𝕄) :
    iprop(before A B K c W ∗ (after A B c -∗ Kt ⟨⟩))
      ⊢ wp frame (wpE (defs₀ (F := F)) 𝒱₀ (c : Thread nD τ) none) Set.univ
          (cc1__combine_kernel (Memref.whole cc1_stg0_0) (Memref.isWhole_whole _) (Memref.whole cc1_stg1_0) (Memref.isWhole_whole _)
            (Memref.whole cc1_stg2_0) (Memref.isWhole_whole _) (Memref.whole cc1_scratch0) (Memref.isWhole_whole _)
            (Memref.whole cc1_scratch1) (Memref.isWhole_whole _) cc1_scratch2 cc1_scratch3) Kt := by
  simp only [cc1__combine_kernel_eq_skeleton]; unfold cc1__combine_kernel_skel
  simp only [k1_part1_eq_skeleton, k1_part2_eq_skeleton]; unfold k1_part1_skel k1_part2_skel
  simp only [semSignalWord, semWaitWord, Prog.lift, Prog.bind_op, Prog.bind_ret, Prog.pure_eq_ret, wp_deviceId]
  unfold before opened toks creds invs
  iintro ⟨⟨⟨⟨⟨#I0, #I1, #I2, #I3, #I4⟩, #J0, #J3, #J4⟩, ⟨P0, P1, P2, P3, P4⟩, ⟨#M0, #R1, #R2, #R3, #R4⟩, T0, T1, T2, T3, T4⟩, ⟨C0, C3, C4⟩, #Hlev, HO, Ho, Hl, Hout, S0, S1⟩, Hk⟩
  -- the barrier: the landing buffers change hands
  iapply (wp_signal_mate A B K c _ (dev1_mate c) W) $$ [HO T0 S0 S1]
  · isplitr; · iexact J0
    isplitl [HO]; · iexact HO
    isplitl [T0]; · iexact T0
    isplitl [S0 S1]; · isplitl [S0] <;> iassumption
    isplitr; · isplitr; · iexact R3
               iexact R4
    iexact M0
  iintro HO
  iapply (wp_wait_mate A B K c W) $$ [C0 HO P0]
  · isplitr; · iexact I0
    isplitl [C0]; · iexact C0
    isplitl [HO]; · iexact HO
    isplitr; · iexact Hlev
    iexact P0
  iintro ⟨HO, P0, Hpay⟩
  unfold pay
  icases Hpay with ⟨⟨⟨%f0, S0⟩, ⟨%f1, S1⟩⟩, #M3, #M4⟩
  -- the two copies
  unfold dueCopies
  iapply (wp_send0 A B K c _ (dev2_mate c) f0 _) $$ [Ho S0 HO T1 T3]
  · isplitr; · iexact I1
    isplitr; · iexact J3
    isplitl [Ho]; · iexact Ho
    isplitl [S0]; · iexact S0
    isplitl [HO]; · iexact HO
    isplitl [T1]; · iexact T1
    isplitr; · iexact R1
    isplitl [T3]; · iexact T3
    iexact M3
  iintro ⟨C1, HO⟩
  iapply (wp_send1 A B K c _ (dev3_mate c) f1 _) $$ [Hl S1 HO T2 T4]
  · isplitr; · iexact I2
    isplitr; · iexact J4
    isplitl [Hl]; · iexact Hl
    isplitl [S1]; · iexact S1
    isplitl [HO]; · rw [zero_add]; iexact HO
    isplitl [T2]; · iexact T2
    isplitr; · iexact R2
    isplitl [T4]; · iexact T4
    iexact M4
  iintro ⟨C2, HO⟩
  -- the four waits: the sources come back, the mate's data has landed
  iapply (wp_wait_copy A B K c 1 (q := 13) rfl (src := (Memref.whole cc1_scratch0 : Memref sig .tc .vmem S8x8x16x128 .f32))
      (dst := (Memref.whole cc1_stg0_0 : Memref sig .tc .vmem S8x8x16x128 .f32)) rfl _) $$ [C1 HO P1]
  · isplitr; · iexact I1
    isplitl [C1]; · iexact C1
    isplitl [HO]; · iexact HO
    iexact P1
  iintro ⟨HO, P1, Ho⟩
  iapply (wp_wait_copy A B K c 3 (q := 15) rfl (src := (Memref.whole cc1_stg0_0 : Memref sig .tc .vmem S8x8x16x128 .f32))
      (dst := (Memref.whole cc1_scratch0 : Memref sig .tc .vmem S8x8x16x128 .f32)) rfl _) $$ [C3 HO P3]
  · isplitr; · iexact I3
    isplitl [C3]; · iexact C3
    isplitl [HO]; · iexact HO
    iexact P3
  iintro ⟨HO, P3, S0⟩
  iapply (wp_wait_copy A B K c 2 (q := 14) rfl (src := (Memref.whole cc1_scratch1 : Memref sig .tc .vmem S8x16x8 .f32))
      (dst := (Memref.whole cc1_stg1_0 : Memref sig .tc .vmem S8x16x8 .f32)) rfl _) $$ [C2 HO P2]
  · isplitr; · iexact I2
    isplitl [C2]; · iexact C2
    isplitl [HO]; · iexact HO
    iexact P2
  iintro ⟨HO, P2, Hl⟩
  iapply (wp_wait_copy A B K c 4 (q := 16) rfl (src := (Memref.whole cc1_stg1_0 : Memref sig .tc .vmem S8x16x8 .f32))
      (dst := (Memref.whole cc1_scratch1 : Memref sig .tc .vmem S8x16x8 .f32)) rfl _) $$ [C4 HO P4]
  · isplitr; · iexact I4
    isplitl [C4]; · iexact C4
    isplitl [HO]; · iexact HO
    iexact P4
  iintro ⟨HO, P4, S1⟩
  unfold pay
  -- every cell is done: their counters come back
  imod (close A B (K (gcell c 0)) (gcell c 0)) $$ [P0] with V0
  · isplitr; · iexact I0
    iexact P0
  imod (close A B (K (gcell c 1)) (gcell c 1)) $$ [P1] with V1
  · isplitr; · iexact I1
    iexact P1
  imod (close A B (K (gcell c 2)) (gcell c 2)) $$ [P2] with V2
  · isplitr; · iexact I2
    iexact P2
  imod (close A B (K (gcell c 3)) (gcell c 3)) $$ [P3] with V3
  · isplitr; · iexact I3
    iexact P3
  imod (close A B (K (gcell c 4)) (gcell c 4)) $$ [P4] with V4
  · isplitr; · iexact I4
    iexact P4
  -- the arithmetic
  icases Hout with ⟨%fo, Hout⟩
  iapply (wp_load 𝒱₀ (c : Thread nD τ) none Set.univ (m := Memref.whole cc1_stg1_0) (Finset.subset_univ _)) $$ Hl; iintro Hl
  iapply (wp_load 𝒱₀ (c : Thread nD τ) none Set.univ (m := Memref.whole cc1_scratch1) (Finset.subset_univ _)) $$ S1; iintro S1
  iapply (wp_load 𝒱₀ (c : Thread nD τ) none Set.univ (m := Memref.whole cc1_stg0_0) (Finset.subset_univ _)) $$ Ho; iintro Ho
  iapply (wp_load 𝒱₀ (c : Thread nD τ) none Set.univ (m := Memref.whole cc1_scratch0) (Finset.subset_univ _)) $$ S0; iintro S0
  iapply (wp_load 𝒱₀ (c : Thread nD τ) none Set.univ (m := Memref.whole cc1_stg2_0) (Finset.subset_univ _)) $$ Hout; iintro Hout
  iapply (wp_store 𝒱₀ (c : Thread nD τ) none Set.univ (m := Memref.whole cc1_stg2_0)
    (r := Rect.unit (s := S8x8x16x128) ![0, 0, 0, 0] S8x8x16x128.size inb_S8x8x16x128_S8x8x16x128_0_0_0_0) (Mk := Finset.univ) (Finset.subset_univ _)) $$ Hout; iintro Hout
  rw [wp_ret]; imodintro
  iapply Hk
  unfold after copySems
  isplitl [V0 V1 V2 V3 V4]
  · isplitl [V0]; · iexact V0
    isplitl [V1]; · iexact V1
    isplitl [V2]; · iexact V2
    isplitl [V3] <;> iassumption
  isplitl [HO]; · iexists _; iexact HO
  isplitl [Ho]; · iexact Ho
  isplitl [Hl]; · iexact Hl
  isplitl [Hout]
  · iapply (Entails.of_eq (congrArg (pt c cc1_stg2_0) (stored A B c fo))); iexact Hout
  isplitl [S0]
  · iexists _; iexact S0
  iexists _; iexact S1

end Cert.Swap

end
-- ==== Proof.Data.lean ====
/-
  What each kernel is entered with, leaves and keeps: the proof data of the two regions.
-/
module

public import proofs.«01_k».proof.Proof.Partials
public import proofs.«01_k».proof.Proof.Combine
public import proofs.«01_k».proof.Proof.Gen.KernelIdeal.Points
public import proofs.«01_k».proof.Proof.Gen.KernelIdeal.Regions

@[expose] public section

noncomputable section

namespace Cert.Run

open Cert.KernelIdeal Cert.KernelIdeal.Gen Cert.Swap Cert.Partials
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The first kernel -/

/-- The block of queries of one point. -/
noncomputable abbrev blkQ (c : Dev nD) (t : Fin grid0.N) : Vec F S1x8x8x128 .f32 :=
  (win0_0.blk t).view.read (Elt F) (m ((c : Thread nD τ).loc main_arg0))
/-- The block of keys of one point. -/
noncomputable abbrev blkK (c : Dev nD) (t : Fin grid0.N) : Vec F S1x1024x8x128 .f32 :=
  (win0_1.blk t).view.read (Elt F) (m ((c : Thread nD τ).loc main_arg1))
/-- The block of values of one point. -/
noncomputable abbrev blkV (c : Dev nD) (t : Fin grid0.N) : Vec F S1x1024x8x128 .f32 :=
  (win0_2.blk t).view.read (Elt F) (m ((c : Thread nD τ).loc main_arg2))

/-- The first kernel: it owes the exchange throughout and touches nothing of it. -/
noncomputable def dat0 (c : Dev nD) : Dat τ (Elt F) Unit ℕ UU ℕ cfg0 c where
  A w := m ((cfg0.win w).arr.view.loc (c : Thread nD τ))
  after w t := match w with
    | ⟨0, _⟩ => blkQ m c t
    | ⟨1, _⟩ => blkK m c t
    | ⟨2, _⟩ => blkV m c t
    | ⟨3, _⟩ => num (blkQ m c t) (blkK m c t) (blkV m c t)
    | ⟨4, _⟩ => den (blkQ m c t) (blkK m c t)
  Φ _ := Pipeline.scopedRest spec0 c
  q _ := fullShare
  owed _ := due c

/-- The device's numerators, after the first kernel. -/
noncomputable def nums (c : Dev nD) : Buf (Elt F) ((c : Thread nD τ).loc main_v1_0) := (dat0 m c).arrAt 3 cfg0.N
/-- The device's denominators, after the first kernel. -/
noncomputable def dens (c : Dev nD) : Buf (Elt F) ((c : Thread nD τ).loc main_v1_1) := (dat0 m c).arrAt 4 cfg0.N

/-- The unscoped buffers after the first kernel. -/
noncomputable def V1 (c : Dev nD) : Valuation τ sig (Elt F) :=
  Function.update (Function.update (V0 m c) main_v1_0 (nums m c)) main_v1_1 (dens m c)

/-! ## The second kernel -/

/-- The block of numerators the second kernel is given. -/
noncomputable def A (c : Dev nD) : FVec F S8x8x16x128 .f32 := (win1_0.blk t1_0).view.read (Elt F) (nums m c)
/-- The block of denominators the second kernel is given. -/
noncomputable def B (c : Dev nD) : FVec F S8x16x8 .f32 := (win1_1.blk t1_0).view.read (Elt F) (dens m c)

/-- The second kernel at its start. -/
noncomputable def start1 (c : Dev nD) : sProp 𝕄 :=
  iprop((∃ K, opened (A m) (B m) K c) ∗ creds c ∗ levAts L lv ∗ Pipeline.scopedRest spec1 c ∗ ∃ r, prngReg c r)
/-- The second kernel at its end. -/
noncomputable def end1 (c : Dev nD) : sProp 𝕄 :=
  iprop((semVal (gcell c 0) 0 ∗ copySems c) ∗ Pipeline.scopedRest spec1 c ∗ ∃ r, prngReg c r)

/-- The second kernel: it pays everything it owes. -/
noncomputable def dat1 (c : Dev nD) : Dat τ (Elt F) Unit ℕ UU ℕ cfg1 c where
  A w := match w with
    | ⟨0, _⟩ => nums m c
    | ⟨1, _⟩ => dens m c
    | ⟨2, _⟩ => m ((c : Thread nD τ).loc main_v2)
  after w _ := match w with
    | ⟨0, _⟩ => A m c
    | ⟨1, _⟩ => B m c
    | ⟨2, _⟩ => combined (A m) (B m) c
  Φ t := match t with
    | ⟨0, _⟩ => start1 m c
    | ⟨_ + 1, _⟩ => end1 (F := F) c
  q _ := fullShare
  owed t := match t with
    | ⟨0, _⟩ => due c
    | ⟨_ + 1, _⟩ => 0

/-- The result, after the second kernel. -/
noncomputable def out (c : Dev nD) : Buf (Elt F) ((c : Thread nD τ).loc main_v2) := (dat1 m c).arrAt 2 cfg1.N

/-- The unscoped buffers after the second kernel. -/
noncomputable def V2 (c : Dev nD) : Valuation τ sig (Elt F) := Function.update (V1 m c) main_v2 (out m c)

noncomputable def pdats : (p : Fin 2) → (c : Dev nD) → Dat τ (Elt F) Unit ℕ UU ℕ (cfgs p) c
  | ⟨0, _⟩ => dat0 m
  | ⟨1, _⟩ => dat1 m

/-! ## The valuations at the buffers read -/

omit [FloatOps F] [Named F] in
theorem dev_ne {r s : Ref sig .tc} (h : r ≠ s) : (Proc.devRef .tc r : DevRef τ sig) ≠ Proc.devRef .tc s := StableHlo.devRef_ne_of_ne h

theorem V1_num (c : Dev nD) : V1 m c main_v1_0 = nums m c := by
  unfold V1; rw [Function.update_of_ne (dev_ne (by decide)), Function.update_self]
theorem V1_den (c : Dev nD) : V1 m c main_v1_1 = dens m c := by
  unfold V1; rw [Function.update_self]
theorem V1_of (c : Dev nD) (b : DevRef τ sig) (h0 : b ≠ Proc.devRef .tc main_v1_0) (h1 : b ≠ Proc.devRef .tc main_v1_1) : V1 m c b = V0 m c b := by
  unfold V1; rw [Function.update_of_ne h1, Function.update_of_ne h0]
theorem V2_out (c : Dev nD) : V2 m c main_v2 = out m c := by unfold V2; rw [Function.update_self]
theorem V2_of (c : Dev nD) (b : DevRef τ sig) (h : b ≠ Proc.devRef .tc main_v2) : V2 m c b = V1 m c b := by
  unfold V2; rw [Function.update_of_ne h]

/-! ## Owing -/

theorem owesAt_intro {cfg : Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound
  rw [h0, hr]
  iintro H
  iexists W
  isplitr
  · ipureintro; exact fun _ _ => Or.inl trivial
  · iexact H

theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, H⟩
  iexists W
  iexact H

/-! ## The bodies -/

theorem before0_0 (c : Dev nD) (t : Fin cfg0.N) (d) : (dat0 m c).before (0 : Fin 5) t d = blkQ m c t := by
  unfold Dat.before; rw [if_pos (fetch0_0 t)]; rfl
theorem before0_1 (c : Dev nD) (t : Fin cfg0.N) (d) : (dat0 m c).before (1 : Fin 5) t d = blkK m c t := by
  unfold Dat.before; rw [if_pos (fetch0_1 t)]; rfl
theorem before0_2 (c : Dev nD) (t : Fin cfg0.N) (d) : (dat0 m c).before (2 : Fin 5) t d = blkV m c t := by
  unfold Dat.before; rw [if_pos (fetch0_2 t)]; rfl
theorem before1_0 (c : Dev nD) (d) : (dat1 m c).before (0 : Fin 3) t1_0 d = A m c := by
  unfold Dat.before; rw [if_pos (fetch1_0 t1_0)]; rfl
theorem before1_1 (c : Dev nD) (d) : (dat1 m c).before (1 : Fin 3) t1_0 d = B m c := by
  unfold Dat.before; rw [if_pos (fetch1_1 t1_0)]; rfl

/-- The first kernel's body, at any point. -/
theorem body0 (c : Dev nD) : BodyObligation (dat0 m c) defs₀ 𝒱₀ () Set.univ := fun t => by
  rw [bigSep_W0, bigSep_W0]
  simp only [before0_0, before0_1, before0_2]
  rw [show (dat0 m c).Φ t.castSucc = (dat0 m c).Φ t.succ from rfl,
    show (dat0 m c).owesAt () t.castSucc = (dat0 m c).owesAt () t.succ from rfl]
  iintro ⟨HΦ, HO, ⟨%d0, H0⟩, ⟨%d1, H1⟩, ⟨%d2, H2⟩, ⟨%d3, H3⟩, ⟨%d4, H4⟩⟩
  iapply (Partials.run c (grid0.coords t) (st0_0 t) (hstage0_0 ((cfg0.slots t 0).cast nbuf0_0)) (st0_1 t) (st0_2 t) (hstage0_1 ((cfg0.slots t 1).cast nbuf0_1))
    (hstage0_2 ((cfg0.slots t 2).cast nbuf0_2)) (st0_3 t) (hstage0_3 ((cfg0.slots t 3).cast nbuf0_3)) (st0_4 t) (hstage0_4 ((cfg0.slots t 4).cast nbuf0_4))
    (blkQ m c t) (blkK m c t) (blkV m c t) _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

omit [FloatOps F] [Named F] in
theorem owns_whole (c : Dev nD) (b : Ref sig .tc) (X : b.ty.Contents (Elt F)) :
    (owns (c : Thread nD τ) (Memref.whole b) fullShare X : sProp 𝕄) ⊢ Swap.pt c b X := by
  unfold owns
  simp only [Memref.view_whole, View.read_whole, View.set_whole]
  iintro ⟨%f, %e, H⟩
  subst e
  iexact H

omit [FloatOps F] [Named F] in
theorem whole_owns (c : Dev nD) (b : Ref sig .tc) (X : b.ty.Contents (Elt F)) :
    Swap.pt c b X ⊢ (owns (c : Thread nD τ) (Memref.whole b) fullShare X : sProp 𝕄) := by
  unfold owns
  simp only [Memref.view_whole, View.read_whole, View.set_whole]
  iintro H
  iexists X
  isplitr
  · ipureintro; rfl
  · iexact H

/-- The second kernel's body. -/
theorem body1 (c : Dev nD) : BodyObligation (dat1 m c) defs₀ 𝒱₀ () Set.univ := fun t => by
  obtain rfl := fin_N1 t
  rw [bigSep_W1, bigSep_W1]
  simp only [before1_0, before1_1]
  rw [show (dat1 m c).Φ t1_0.castSucc = start1 m c from rfl, show (dat1 m c).Φ t1_0.succ = end1 c from rfl]
  unfold start1 end1
  rw [scopedRest1_eq]
  iintro ⟨⟨⟨%K, Hg⟩, Hc, Hlev, ⟨G0, G1, G2, G3, G4, G5, G6, G7, G8, G9, S0, S1⟩, Hp⟩, HO, ⟨%d0, H0⟩, ⟨%d1, H1⟩, ⟨%d2, H2⟩⟩
  ihave HO' := (owesAt_elim (dat1 m c) _ (due c) rfl) $$ HO
  icases HO' with ⟨%W, HO⟩
  iapply (combine_run (A m) (B m) K c W _)
  isplitl [Hg Hc Hlev HO H0 H1 H2 S0 S1]
  · unfold before
    isplitl [Hg]; · iexact Hg
    isplitl [Hc]; · iexact Hc
    isplitl [Hlev]; · iexact Hlev
    isplitl [HO]; · iexact HO
    isplitl [H0]; · iapply (owns_whole c cc1_stg0_0 (A m c)) $$ H0
    isplitl [H1]; · iapply (owns_whole c cc1_stg1_0 (B m c)) $$ H1
    isplitl [H2]; · iexists _; iapply (owns_whole c cc1_stg2_0 _) $$ H2
    isplitl [S0] <;> iassumption
  unfold after
  iintro ⟨Hs, ⟨%W', HO⟩, H0, H1, H2, S0, S1⟩
  isplitl [Hs Hp G0 G1 G2 G3 G4 G5 G6 G7 G8 G9 S0 S1]
  · isplitl [Hs]; · iexact Hs
    isplitr [Hp]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [S0] <;> iassumption
    iexact Hp
  isplitl [HO]; · iapply (owesAt_intro (dat1 m c) t1_0.succ 0 rfl W' rfl) $$ HO
  isplitl [H0]; · iapply (whole_owns c cc1_stg0_0 (A m c)) $$ H0
  isplitl [H1]; · iapply (whole_owns c cc1_stg1_0 (B m c)) $$ H1
  iapply (whole_owns c cc1_stg2_0 (combined (A m) (B m) c)) $$ H2

end Cert.Run

end
-- ==== Proof.Segments.lean ====
/-
  The two kernels as segments of the program: what each device holds before, between and after.
-/
module

public import proofs.«01_k».proof.Proof.Data
public import Idealize.ShloMosaic.Lib.Pipeline.RegionTalk
public import Idealize.ShloMosaic.Lib.Pipeline.RegionArrays

@[expose] public section

noncomputable section

namespace Cert.Run

open Cert.KernelIdeal Cert.KernelIdeal.Gen Cert.Swap Cert.Partials
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ
local notation "ℝ𝕊" => Pipeline.RegionSeg (pcfgs (F := F)) adm

variable (m : (ℓ : Loc nD τ sig) → Buf (Elt F) ℓ)

/-! ## What is held between the kernels -/

/-- What rides along from launch to the second kernel. -/
noncomputable def keep (c : Dev nD) : sProp 𝕄 := iprop((∃ K, ghost (A m) (B m) K c) ∗ creds c)

/-- Before the first kernel. -/
noncomputable def T0 (c : Dev nD) : sProp 𝕄 :=
  iprop(StableHlo.held (c : Thread nD τ) (Pipeline.ucRefs τ sig) (V0 m c) ∗ keep m c ∗ (∃ r, prngReg c r)
    ∗ ∃ W, owes (c : Thread nD τ) (due c) W)
/-- Between the two. -/
noncomputable def T1 (c : Dev nD) : sProp 𝕄 :=
  iprop(StableHlo.held (c : Thread nD τ) (Pipeline.ucRefs τ sig) (V1 m c) ∗ keep m c ∗ (∃ r, prngReg c r)
    ∗ ∃ W, owes (c : Thread nD τ) (due c) W)
/-- After the second. -/
noncomputable def T2 (c : Dev nD) : sProp 𝕄 :=
  iprop(StableHlo.held (c : Thread nD τ) (Pipeline.ucRefs τ sig) (V2 m c) ∗ semVal (gcell c 0) 0)

abbrev rest0 : Finset (DevRef τ sig) := Pipeline.ucRefs τ sig \ Pipeline.arrRefs (τ := τ) spec0
abbrev rest1 : Finset (DevRef τ sig) := Pipeline.ucRefs τ sig \ Pipeline.arrRefs (τ := τ) spec1

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)

theorem mem_arr {gr W : ℕ} (spec : Fin W → Pipeline.WinSpec sig gr) (w : Fin W) :
    (Proc.devRef .tc (Pipeline.arrRef spec w) : DevRef τ sig) ∈ Pipeline.arrRefs (τ := τ) spec :=
  Finset.mem_map_of_mem _ (Finset.mem_image_of_mem _ (Finset.mem_univ w))

theorem rest0_congr (c : Dev nD) : (StableHlo.held (c : Thread nD τ) rest0 (V0 m c) : sProp 𝕄) = StableHlo.held (c : Thread nD τ) rest0 (V1 m c) :=
  StableHlo.held_congr _ fun b hb => by
    rw [V1_of m c b (fun h => (Finset.mem_sdiff.mp hb).2 (h ▸ mem_arr spec0 3)) (fun h => (Finset.mem_sdiff.mp hb).2 (h ▸ mem_arr spec0 4))]

/-! ## The staging cells' level -/

theorem stage_level0 (w : Fin 5) (s : Fin (spec0 w).nbuf) (c : Dev nD) : lv ((c : Thread nD τ), .dma ((spec0 w).sem s)) () ≤ 0 := by
  have h : ∀ (w : Fin 5) (s : Fin (spec0 w).nbuf), SemLoc.dma ((spec0 w).sem s) ≠ semOf 0
      ∧ ¬ (SemLoc.dma ((spec0 w).sem s) = semOf 3 ∨ SemLoc.dma ((spec0 w).sem s) = semOf 4) := by decide
  unfold lv; rw [if_neg (h w s).1, if_neg (h w s).2]

theorem stage_level1 (w : Fin 3) (s : Fin (spec1 w).nbuf) (c : Dev nD) : lv ((c : Thread nD τ), .dma ((spec1 w).sem s)) () ≤ 0 := by
  have h : ∀ (w : Fin 3) (s : Fin (spec1 w).nbuf), SemLoc.dma ((spec1 w).sem s) ≠ semOf 0
      ∧ ¬ (SemLoc.dma ((spec1 w).sem s) = semOf 3 ∨ SemLoc.dma ((spec1 w).sem s) = semOf 4) := by decide
  unfold lv; rw [if_neg (h w s).1, if_neg (h w s).2]

/-! ## The first kernel's segment -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem share0 (c : Dev nD) (w : Fin cfg0.W) : (dat0 m c).share w = fullShare := by unfold Dat.share; split <;> rfl
theorem share1 (c : Dev nD) (w : Fin cfg1.W) : (dat1 m c).share w = fullShare := by unfold Dat.share; split <;> rfl

theorem entry0 (c : Dev nD) : ∀ w : Fin 5, (dat0 m c).arrAt w 0 = V0 m c (Proc.devRef .tc (Pipeline.arrRef spec0 w))
  | 0 => rfl
  | 1 => rfl
  | 2 => rfl
  | 3 => rfl
  | 4 => rfl

theorem exit0 (c : Dev nD) : ∀ w : Fin 5, (dat0 m c).arrAt w cfg0.N = V1 m c (Proc.devRef .tc (Pipeline.arrRef spec0 w))
  | 0 => ((dat0 m c).arrAt_in 0 rfl _).trans (V1_of m c (Proc.devRef .tc main_arg0) (dev_ne (by decide)) (dev_ne (by decide))).symm
  | 1 => ((dat0 m c).arrAt_in 1 rfl _).trans (V1_of m c (Proc.devRef .tc main_arg1) (dev_ne (by decide)) (dev_ne (by decide))).symm
  | 2 => ((dat0 m c).arrAt_in 2 rfl _).trans (V1_of m c (Proc.devRef .tc main_arg2) (dev_ne (by decide)) (dev_ne (by decide))).symm
  | 3 => (V1_num m c).symm
  | 4 => (V1_den m c).symm

theorem entry1 (c : Dev nD) : ∀ w : Fin 3, (dat1 m c).arrAt w 0 = V1 m c (Proc.devRef .tc (Pipeline.arrRef spec1 w))
  | 0 => (V1_num m c).symm
  | 1 => (V1_den m c).symm
  | 2 => (V1_of m c _ (dev_ne (by decide)) (dev_ne (by decide))).symm

theorem exit1 (c : Dev nD) : ∀ w : Fin 3, (dat1 m c).arrAt w cfg1.N = V2 m c (Proc.devRef .tc (Pipeline.arrRef spec1 w))
  | 0 => ((dat1 m c).arrAt_in 0 rfl _).trans ((V1_num m c).symm.trans (V2_of m c _ (dev_ne (by decide))).symm)
  | 1 => ((dat1 m c).arrAt_in 1 rfl _).trans ((V1_den m c).symm.trans (V2_of m c _ (dev_ne (by decide))).symm)
  | 2 => (V2_out m c).symm

set_option backward.isDefEq.respectTransparency.types false in
noncomputable def reg0 : ℝ𝕊 (pdats m) () defs₀ 𝒱₀ L lv 0 :=
  Pipeline.RegionSeg.ofHeld (pcfgs (F := F)) adm (pdats m) () defs₀ 𝒱₀ L lv 0 due (fun _ => iprop(emp)) (fun _ => iprop(emp))
    kit0 rfl (fun c => (body0 m c).loose) (fun _ _ => rfl) (fun _ => rfl) (share0 m)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]
      · iexact H
      · iempintro)
    (fun _ => 0) ⟨fun c _ _ => L_tc c _, fun c w s => stage_level0 w s c, fun _ _ _ h => due_level h⟩
    (fun c => iprop(StableHlo.held (c : Thread nD τ) rest0 (V0 m c) ∗ keep m c ∗ ∃ r, prngReg c r))
    (V0 m) (V1 m) (entry0 m) (exit0 m)

theorem reg0_pre (c : Dev nD) : T0 m c ⊢ (reg0 m).pre c := by
  show T0 m c ⊢ iprop(StableHlo.held (c.tc : Thread nD τ) (Pipeline.arrRefs (τ := τ) spec0) (V0 m c) ∗ emp
    ∗ (StableHlo.held (c : Thread nD τ) rest0 (V0 m c) ∗ keep m c ∗ ∃ r, prngReg c r) ∗ ∃ W, owes (c : Thread nD τ) (due c) W)
  unfold T0
  rw [StableHlo.held_sub_split (c : Thread nD τ) sub0 (V0 m c)]
  iintro ⟨⟨Ha, Hr⟩, Hk, Hp, HO⟩
  isplitl [Ha]; · iexact Ha
  isplitr; · iempintro
  isplitr [HO]
  · isplitl [Hr]; · iexact Hr
    isplitl [Hk] <;> iassumption
  iexact HO

theorem reg0_post (c : Dev nD) : (reg0 m).post c ⊢ T1 m c := by
  show iprop(StableHlo.held (c.tc : Thread nD τ) (Pipeline.arrRefs (τ := τ) spec0) (V1 m c) ∗ emp
    ∗ (StableHlo.held (c : Thread nD τ) rest0 (V0 m c) ∗ keep m c ∗ ∃ r, prngReg c r) ∗ ∃ W, owes (c : Thread nD τ) (due c) W) ⊢ T1 m c
  unfold T1
  rw [rest0_congr m c, StableHlo.held_sub_split (c : Thread nD τ) sub0 (V1 m c)]
  iintro ⟨Ha, -, ⟨Hr, Hk, Hp⟩, HO⟩
  isplitl [Ha Hr]; · isplitl [Ha] <;> iassumption
  isplitl [Hk]; · iexact Hk
  isplitl [Hp] <;> iassumption

/-! ## The second kernel's segment -/

/-- The second kernel's own semaphores: the four copy semaphores. -/
abbrev osem : Fin 4 → SemLoc sig := fun k => semOf k.succ

theorem ownSemFacts : Pipeline.OwnSemFacts spec1 osem := by decide

omit [FloatOps F] [Named F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] [Named F] in
theorem ownSems_eq (c : Dev nD) : (Pipeline.ownSems0 osem c : sProp 𝕄) = copySems c := by
  unfold Pipeline.ownSems0 copySems
  rw [bigSep_four]
  rfl

noncomputable def ready (c : Dev nD) : sProp 𝕄 := iprop((∃ K, opened (A m) (B m) K c) ∗ creds c ∗ levAts L lv)

theorem enter1 (c : Dev nD) : iprop(keep m c ∗ Pipeline.ownSems0 osem c ∗ levAts L lv) ⊢ (|={Set.univ}=> ready m c : sProp 𝕄) := by
  rw [ownSems_eq]
  unfold keep ready
  iintro ⟨⟨⟨%K, Hg⟩, Hc⟩, Hs, Hlev⟩
  imod (open_all (A m) (B m) K c) $$ [Hg Hs] with Ho
  · isplitl [Hg] <;> iassumption
  imodintro
  isplitl [Ho]; · iexists K; iexact Ho
  isplitl [Hc] <;> iassumption

theorem due_cut (c : Dev nD) (t : Fin (cfg1.N + 1)) (g : GSem nD τ sig) (i : Unit) (h : 0 < (dat1 m c).owed t g i) : i ∈ L g ∧ 0 < lv g i := by
  obtain ⟨t, ht⟩ := t
  cases t with
  | zero => exact due_level (c := c) h
  | succ t => exact absurd h (Nat.lt_irrefl 0)

set_option backward.isDefEq.respectTransparency.types false in
noncomputable def reg1 : ℝ𝕊 (pdats m) () defs₀ 𝒱₀ L lv 1 :=
  Pipeline.RegionSeg.ofTalk (pcfgs (F := F)) adm (pdats m) () defs₀ 𝒱₀ L lv 1 osem ownSemFacts
    ∅ rest1 (Finset.empty_subset _) kit1 rfl (fun c => (body1 m c).loose)
    (fun _ => 0) due (fun c => (zero_add (due c)).symm) (fun _ => rfl) (fun _ => rfl) (share1 m)
    (V1 m) (V2 m) (fun c b hb => V2_of m c b fun h => (Finset.mem_sdiff.mp (Finset.mem_sdiff.mp hb).1).2 (h ▸ mem_arr spec1 2))
    (keep m) (fun c => semVal (gcell c 0) 0) (ready m) (fun c => semVal (gcell c 0) 0) (enter1 m)
    (fun c => by
      show iprop(Pipeline.scopedRest spec1 c ∗ (∃ r, prngReg c r) ∗ StableHlo.held (c.tc : Thread nD τ) ∅ (V1 m c) ∗ ready m c) ⊢ start1 m c
      unfold ready start1
      iintro ⟨Hs, Hp, -, Ho, Hc, Hlev⟩
      isplitl [Ho]; · iexact Ho
      isplitl [Hc]; · iexact Hc
      isplitl [Hlev]; · iexact Hlev
      isplitl [Hs] <;> iassumption)
    (fun c => by
      show end1 (F := F) c ⊢ iprop(Pipeline.scopedRest spec1 c ∗ (∃ r, prngReg c r) ∗ StableHlo.held (c.tc : Thread nD τ) ∅ (V2 m c)
        ∗ Pipeline.ownSems0 osem c ∗ semVal (gcell c 0) 0)
      rw [ownSems_eq]
      unfold end1 StableHlo.held
      rw [BI.bigSep_empty]
      iintro ⟨⟨Hb, Hc⟩, Hs, Hp⟩
      isplitl [Hs]; · iexact Hs
      isplitl [Hp]; · iexact Hp
      isplitr; · iempintro
      isplitl [Hc] <;> iassumption)
    (fun c => by iintro H; imodintro; iexact H)
    (fun _ => 0) ⟨fun c _ _ => L_tc c _, fun c w s => stage_level1 w s c, fun c t g i h => due_cut m c t g i h⟩
    (fun _ => iprop(emp)) (entry1 m) (exit1 m)

theorem reg1_pre (c : Dev nD) : T1 m c ⊢ (reg1 m).pre c := by
  show T1 m c ⊢ iprop(StableHlo.held (c.tc : Thread nD τ) (Pipeline.arrRefs (τ := τ) spec1) (V1 m c) ∗ (∃ r, prngReg c r)
    ∗ (StableHlo.held (c : Thread nD τ) rest1 (V1 m c) ∗ emp) ∗ keep m c ∗ ∃ W, owes (c : Thread nD τ) (0 + due c) W)
  unfold T1
  rw [zero_add, StableHlo.held_sub_split (c : Thread nD τ) sub1 (V1 m c)]
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem reg1_post (c : Dev nD) : (reg1 m).post c ⊢ iprop(T2 m c ∗ ∃ W, owes (c : Thread nD τ) (0 : CellTallies nD τ sig Unit) W) := by
  show iprop(StableHlo.held (c.tc : Thread nD τ) (Pipeline.arrRefs (τ := τ) spec1) (V2 m c) ∗ (∃ r, prngReg c r)
    ∗ (StableHlo.held (c : Thread nD τ) rest1 (V2 m c) ∗ emp) ∗ semVal (gcell c 0) 0 ∗ ∃ W, owes (c : Thread nD τ) (0 : CellTallies nD τ sig Unit) W) ⊢ _
  unfold T2
  rw [StableHlo.held_sub_split (c : Thread nD τ) sub1 (V2 m c)]
  iintro ⟨Ha, -, ⟨Hr, -⟩, Hb, HO⟩
  isplitr [HO]
  · isplitr [Hb]
    · isplitl [Ha] <;> iassumption
    iexact Hb
  iexact HO

end Cert.Run

end
-- ==== Proof.Launch.lean ====
/-
  The launch of the program: the exchange's ghost state dealt to the four devices, and the run.
-/
module

public import proofs.«01_k».proof.Proof.Segments
public import Idealize.ShloMosaic.Lib.Pipeline.Regions

@[expose] public section

noncomputable section

namespace Cert.Run

open Cert.KernelIdeal Cert.KernelIdeal.Gen Cert.Swap Cert.Partials
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

noncomputable def barEmb : Dev nD ↪ GSem nD τ sig := ⟨fun c => gcell c 0, fun _ _ h => congrArg (fun g : GSem nD τ sig => g.1.1) h⟩
noncomputable def copyEmb : Dev nD × Fin 4 ↪ GSem nD τ sig :=
  ⟨fun p => gcell p.1 p.2.succ, fun _ _ h => Prod.ext (congrArg (fun g : GSem nD τ sig => g.1.1) h)
    (Fin.succ_injective 4 (semOf_inj (congrArg (fun g : GSem nD τ sig => g.2) h)))⟩
noncomputable def tokEmb : Dev nD × Cell ↪ GSem nD τ sig × ℕ × Unit :=
  ⟨fun p => (gcell p.1 p.2, 0, ()), fun _ _ h => Prod.ext (congrArg (fun t : GSem nD τ sig × ℕ × Unit => t.1.1.1) h)
    (semOf_inj (congrArg (fun t : GSem nD τ sig × ℕ × Unit => t.1.2) h))⟩

/-- The barrier cells: their counters exist from launch. -/
noncomputable abbrev barCells : Finset (GSem nD τ sig) := Finset.univ.map barEmb
/-- The copy cells: their counters appear with the second kernel. -/
noncomputable abbrev copyCells : Finset (GSem nD τ sig) := Finset.univ.map copyEmb
/-- One token per cell. -/
noncomputable abbrev allToks : Finset (GSem nD τ sig × ℕ × Unit) := Finset.univ.map tokEmb

theorem disjoint_cells : Disjoint (barCells : Finset (GSem nD τ sig)) copyCells := by
  rw [Finset.disjoint_left]
  intro g h₁ h₂
  obtain ⟨c, -, rfl⟩ := Finset.mem_map.mp h₁
  obtain ⟨p, -, h⟩ := Finset.mem_map.mp h₂
  exact Fin.succ_ne_zero p.2 (semOf_inj (congrArg (fun g : GSem nD τ sig => g.2) h))

theorem bar_mem (c : Dev nD) : gcell c 0 ∈ (barCells ∪ copyCells : Finset (GSem nD τ sig)) :=
  Finset.mem_union_left _ (Finset.mem_map_of_mem barEmb (Finset.mem_univ c))
theorem copy_mem (c : Dev nD) (k : Fin 4) : gcell c k.succ ∈ (barCells ∪ copyCells : Finset (GSem nD τ sig)) :=
  Finset.mem_union_right _ (Finset.mem_map_of_mem copyEmb (Finset.mem_univ (c, k)))

noncomputable def u₀ : UU :=
  (initOf (Pipeline.cells (Pipeline.pin (pcfgs (F := F)) adm) cellOf_inj) (Pipeline.launchToks (Pipeline.pin (pcfgs (F := F)) adm) cellOf_inj),
    launchOf barCells copyCells allToks)

/-! ## The exchange's start, held on device 0 until it is dealt -/

noncomputable def only0 (X : sProp 𝕄) (c : Dev nD) : sProp 𝕄 := if c = (0 : Fin 4) then X else iprop(emp)

omit [FloatOps F] [Named F] in
theorem bigSep_only0 (X : sProp 𝕄) : bigSep Finset.univ (only0 X) = X := by
  rw [bigSep_univ_at _ (0 : Fin 4), bigSep_congr (s := Finset.univ.erase (0 : Fin 4)) (Ψ := fun _ => (BI.emp : sProp 𝕄))
      fun c hc => by unfold only0; rw [if_neg (Finset.ne_of_mem_erase hc)]; rfl, BI.bigSep_emp_const]
  unfold only0; rw [if_pos rfl]
  exact BI.equiv_iff.mp sep_emp

noncomputable def G : Dev nD → sProp 𝕄 := only0 (BI.own (ER (launchOf barCells copyCells allToks)))

/-! ## Dealing -/

/-- What every device may consult: all the invariants, and that every barrier cell is in round 0. -/
noncomputable def records (κ : GSem nD τ sig → ℕ) : sProp 𝕄 :=
  iprop((bigSep (barCells ∪ copyCells) fun g => cellInv ER (sched (A m) (B m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ copyCells : Finset (GSem nD τ sig))) :
    (bigSep (barCells ∪ copyCells) fun g => (cellInv ER (sched (A m) (B m)) (κ g) g : sProp 𝕄)) ⊢ cellInv ER (sched (A m) (B m)) (κ g) g :=
  bigSep_elim hg

omit [FloatOps F] [Named F] in
theorem reached_at (c : Dev nD) : (bigSep barCells fun g => (reached ER g 0 : sProp 𝕄)) ⊢ reached ER (gcell c 0) 0 :=
  bigSep_elim (Finset.mem_map_of_mem barEmb (Finset.mem_univ c))

noncomputable def opens (c : Dev nD) : sProp 𝕄 :=
  iprop(openTok ER (gcell c 1) ∗ openTok ER (gcell c 2) ∗ openTok ER (gcell c 3) ∗ openTok ER (gcell c 4))

noncomputable def linear (c : Dev nD) : sProp 𝕄 := iprop(atPos ER (gcell c 0) 0 ∅ 0 ∗ opens c ∗ toks c)

theorem ghost_intro (κ : GSem nD τ sig → ℕ) (c : Dev nD) : iprop(records m κ ∗ linear c) ⊢ iprop(∃ K, ghost (A m) (B m) K c) := by
  unfold records linear opens ghost Swap.invs
  iintro ⟨⟨#HI, #HR⟩, Ha, Ho, Ht⟩
  iexists κ
  isplitr
  · isplitr
    · isplitr; · iapply (inv_at m κ (bar_mem c)); iexact HI
      isplitr; · iapply (inv_at m κ (copy_mem c 0)); iexact HI
      isplitr; · iapply (inv_at m κ (copy_mem c 1)); iexact HI
      isplitr; · iapply (inv_at m κ (copy_mem c 2)); iexact HI
      iapply (inv_at m κ (copy_mem c 3)); iexact HI
    isplitr; · iapply (inv_at m κ (bar_mem (mate c))); iexact HI
    isplitr; · iapply (inv_at m κ (copy_mem (mate c) 2)); iexact HI
    iapply (inv_at m κ (copy_mem (mate c) 3)); iexact HI
  isplitl [Ha]; · iexact Ha
  isplitl [Ho]; · iexact Ho
  isplitr; · iapply (reached_at (F := F) (mate c)); iexact HR
  iexact Ht

/-- The tokens of device `c`'s own cells. -/
noncomputable def ownToks (c : Dev nD) : sProp 𝕄 :=
  iprop(dutyTok ER (gcell c 0) 0 () ∗ dutyTok ER (gcell c 1) 0 () ∗ dutyTok ER (gcell c 2) 0 () ∗ dutyTok ER (gcell c 3) 0 ()
    ∗ dutyTok ER (gcell c 4) 0 ())

omit [FloatOps F] [Named F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] [Named F] in
theorem toks_eq : bigSep allToks (fun x => (dutyTok ER x.1 x.2.1 x.2.2 : sProp 𝕄)) = bigSep Finset.univ fun c : Dev nD => ownToks c := by
  rw [bigSep_map, bigSep_univ_prod]
  exact bigSep_congr fun c _ => by unfold ownToks; rw [bigSep_five]; rfl

omit [FloatOps F] [Named F] in
/-- Each cell's token goes to the device that pays the cell. -/
theorem toks_around : (bigSep Finset.univ fun c : Dev nD => (ownToks c : sProp 𝕄)) ⊢ bigSep Finset.univ fun c : Dev nD => toks c := by
  unfold ownToks toks
  rw [bigSep_sep', bigSep_sep', bigSep_sep', bigSep_sep', bigSep_sep', bigSep_sep', bigSep_sep', bigSep_sep',
    bigSep_univ_equiv mates (fun c : Dev nD => (dutyTok ER (gcell c 0) 0 () : sProp 𝕄)),
    bigSep_univ_equiv mates (fun c : Dev nD => (dutyTok ER (gcell c 3) 0 () : sProp 𝕄)),
    bigSep_univ_equiv mates (fun c : Dev nD => (dutyTok ER (gcell c 4) 0 () : sProp 𝕄))]
  exact BI.Entails.refl _

/-! ## The launch credit -/

theorem tally_other {c d : Dev nD} {k j : Cell} (n : ℕ) (h : j ≠ k) :
    (tallyAt (gcell d j) () n : CellTallies nD τ sig Unit) (gcell c k) () = 0 := by
  rw [tallyAt_apply, if_neg fun h' => h (semOf_inj (congrArg (fun g : GSem nD τ sig => g.2) h'.1)).symm]

theorem tally_mate (c d : Dev nD) (k : Cell) (n : ℕ) :
    (tallyAt (gcell (mate d) k) () n : CellTallies nD τ sig Unit) (gcell c k) () = if d = mate c then n else 0 := by
  rw [tallyAt_apply]
  by_cases h : d = mate c
  · subst h; rw [mate_mate, if_pos ⟨rfl, rfl⟩, if_pos rfl]
  · rw [if_neg (fun ⟨h1, _⟩ => h (by rw [← mate_mate d]; exact congrArg mate (congrArg (fun g : GSem nD τ sig => g.1.1) h1).symm)), if_neg h]

theorem due_bar (d c : Dev nD) : due d (gcell c 0) () = if d = mate c then 1 else 0 := by
  unfold due dueCopies
  rw [Pi.add_apply, Pi.add_apply, Finsupp.add_apply, Finsupp.add_apply, tally_other _ (by decide), tally_other _ (by decide), tally_mate,
    Nat.zero_add]

theorem due_landed0 (d c : Dev nD) : due d (gcell c 3) () = if d = mate c then N0 else 0 := by
  unfold due dueCopies
  rw [Pi.add_apply, Pi.add_apply, Finsupp.add_apply, Finsupp.add_apply, tally_other (k := 3) (j := 4) _ (by decide),
    tally_other (k := 3) (j := 0) _ (by decide), tally_mate, Nat.zero_add, Nat.add_zero]

theorem due_landed1 (d c : Dev nD) : due d (gcell c 4) () = if d = mate c then N1 else 0 := by
  unfold due dueCopies
  rw [Pi.add_apply, Pi.add_apply, Finsupp.add_apply, Finsupp.add_apply, tally_other (k := 4) (j := 3) _ (by decide),
    tally_other (k := 4) (j := 0) _ (by decide), tally_mate, Nat.add_zero]

theorem launch_of (c : Dev nD) (k : Cell) (n : ℕ) (h : ∀ d, due d (gcell c k) () = if d = mate c then n else 0) :
    tallyOn (gcell c k) (launchCredit (Pipeline.owing due) 0 (gcell c k)) = (tallyAt (gcell c k) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (mate c) fun _ => n,
    if_pos (Finset.mem_univ _)]

omit [FloatOps F] [Named F] in
theorem creds_intro (c : Dev nD) : (Pipeline.launchCred due c : sProp 𝕄) ⊢ creds c := by
  unfold Pipeline.launchCred creds
  rw [bigSep_univ_at _ (semOf 0), launch_of c 0 1 fun d => due_bar d c, ← launch_of c 3 N0 fun d => due_landed0 d c,
    ← launch_of c 4 N1 fun d => due_landed1 d c]
  refine sep_mono_right ?_
  rw [BI.bigSep_erase (s := Finset.univ.erase (semOf 0)) (i := semOf 3) (Finset.mem_erase.mpr ⟨by decide, Finset.mem_univ _⟩)]
  refine sep_mono_right ?_
  exact bigSep_elim (Finset.mem_erase.mpr ⟨by decide, Finset.mem_erase.mpr ⟨by decide, Finset.mem_univ _⟩⟩)

/-! ## The start of the run -/

noncomputable def bundle (c : Dev nD) : sProp 𝕄 :=
  iprop(StableHlo.held (c : Thread nD τ) (Pipeline.ucRefs τ sig) (V0 m c) ∗ creds c ∗ owes (c : Thread nD τ) (due c) ∅ ∗ ∃ r, prngReg c r)

theorem T0_intro (κ : GSem nD τ sig → ℕ) (c : Dev nD) : iprop(records m κ ∗ (linear c ∗ bundle m c)) ⊢ T0 m c := by
  unfold bundle T0 keep
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem unscoped_eq : ∀ sm : SemLoc sig, sm.isScoped .tc = false → sm = semOf 0 := by decide

omit [FloatOps F] [Named F] in
theorem unscopedSems_eq (c : Dev nD) : (unscopedSems0 c : sProp 𝕄) = semVal (gcell c 0) 0 := by
  unfold unscopedSems0
  rw [show (Finset.univ.filter fun sm : SemLoc sig => ¬ sm.isScoped .tc) = {semOf 0} from by decide, bigSep_singleton]

theorem start_of (c : Dev nD) : iprop(unscopedBufs c (fun b => m ((c : Thread nD τ).loc b)) ∗ unscopedSems0 c
      ∗ owes (c : Thread nD τ) (due c) ∅ ∗ Pipeline.launchCred due c ∗ prngReg c (ρ c) ∗ G c)
    ⊢ (iprop(bundle m c ∗ (semVal (gcell c 0) 0 ∗ G c)) : sProp 𝕄) := by
  rw [show unscopedBufs c (fun b => m ((c : Thread nD τ).loc b)) = StableHlo.held (c : Thread nD τ) (Pipeline.ucRefs τ sig) (V0 m c)
    from Pipeline.unscopedBufs_held c (V0 m c), unscopedSems_eq]
  unfold bundle
  iintro ⟨Hh, Hs, HO, Hcr, Hp, HG⟩
  isplitl [Hh HO Hcr Hp]
  · isplitl [Hh]; · iexact Hh
    isplitl [Hcr]; · iapply (creds_intro (F := F) c) $$ Hcr
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c)) ∗ levAts L lv)
      ⊢ (|={Set.univ}=> bigSep Finset.univ (T0 m) : sProp 𝕄) := by
  have hv : bigSep Finset.univ (fun c : Dev nD => (semVal (gcell c 0) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (gcell c 0) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄)) ⊢ bigSep Finset.univ (fun c : Dev nD => (opens c : sProp 𝕄)) :=
    Entails.of_eq (by
      rw [bigSep_map, bigSep_univ_prod]
      exact bigSep_congr fun c _ => bigSep_four fun k : Fin 4 => (openTok ER (gcell c k.succ) : sProp 𝕄))
  iintro ⟨H, -⟩
  ihave H' := (show (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c))
      ⊢ (bigSep Finset.univ fun c : Dev nD => iprop(bundle m c ∗ (semVal (gcell c 0) 0 ∗ G c)) : sProp 𝕄)
      from bigSep_mono fun c _ => start_of m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells copyCells allToks)) from
    Entails.of_eq (bigSep_only0 (F := F) (BI.own (ER (launchOf barCells copyCells allToks))))) $$ HG
  imod (Rounds.fund_launch ER (sched (A m) (B m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T0_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (toks_around (F := F))
    iapply (Entails.of_eq (toks_eq (F := F))) $$ Htok
  · iexact HB

/-! ## The run -/

noncomputable def segs : List (Pipeline.Seg (pcfgs (F := F)) adm (pdats m) () defs₀ 𝒱₀ L lv) := [.region (reg0 m), .region (reg1 m)]

theorem V2_arg (c : Dev nD) (b : Ref sig .tc) (h0 : b ≠ main_v1_0) (h1 : b ≠ main_v1_1) (h2 : b ≠ main_v2) :
    V2 m c (Proc.devRef .tc b) = m ((c : Thread nD τ).loc b) :=
  (V2_of m c _ (dev_ne h2)).trans (V1_of m c _ (dev_ne h0) (dev_ne h1))

/-- What a terminated memory holds on device `c`. -/
def Ends (c : Dev nD) (s : MemSt nD τ sig (Elt F)) : Prop :=
  s.mem ((c : Thread nD τ).loc main_v2) = out m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

theorem fin_read (c : Dev nD) (s' : Phys nD τ sig (Elt F)) :
    iprop(T2 m c ∗ SI s') ⊢ (|={Set.univ}=> iprop(⌜Ends m c s'.mem ∧ s'.mem.sem (gcell c 0) = 0⌝ ∗ SI s') : sProp 𝕄) := by
  unfold T2 StableHlo.held
  iintro ⟨⟨Hh, Hb⟩, HSI⟩
  icombine HSI Hb gives %hb
  ihave Hr := (pointsTo_read_all (Pipeline.ucRefs τ sig) (fun b => ((c : Thread nD τ).1, b)) (V2 m c) s') $$ [Hh HSI]
  · isplitl [Hh] <;> iassumption
  icases Hr with ⟨%h, HSI⟩
  imodintro
  isplitr
  · ipureintro
    exact ⟨⟨(h _ (mem_uc main_v2 (by decide))).trans (V2_out m c),
      (h _ (mem_uc main_arg0 (by decide))).trans (V2_arg m c _ (by decide) (by decide) (by decide)),
      (h _ (mem_uc main_arg1 (by decide))).trans (V2_arg m c _ (by decide) (by decide) (by decide)),
      (h _ (mem_uc main_arg2 (by decide))).trans (V2_arg m c _ (by decide) (by decide) (by decide))⟩, by simpa using hb⟩
  · iexact HSI

set_option backward.isDefEq.respectTransparency.types false in
/-- From any memory with zero counters, the four devices terminate with the arguments unchanged, the result at `out`, and every
    counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (reg0 m) (reg1 m) c]; exact BI.Entails.refl _)
    (by simp only [segs, Pipeline.Seg.pipes_region, Pipeline.Seg.pipes_nil]; decide)
    (O₀ := due) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_only0]; iexact HX)
    (T₀ := T0 m) (Tₙ := T2 m)
    (hch := ⟨fun c => reg0_pre m c, fun c => (reg0_post m c).trans (reg1_pre m c), fun c => reg1_post m c⟩)
    (hinit := init m ρ)
    (QY := fun c s => Ends m c s ∧ s.sem (gcell c 0) = 0)
    (hfin := fun c s' => fin_read m c s')
    (hQ := fun s h hs => ⟨fun c => (h c).1, sem_eq_zero hs fun c sm hsm => by
      obtain rfl := unscoped_eq sm hsm
      exact (h c).2⟩)

end Cert.Run

end
-- ==== Proof.Frames.lean ====
/-
  The claims that say nothing of values: every program terminates with its arguments unchanged and
  every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- A named constant, read as the float that its pattern is: so read, the idealized kernel is the kernel. -/
local instance namedBits : Named Bits where named _ _ {φ} b := FloatOps.ofBits φ b

/-- The kernel's body table is the idealized kernel's, with the named constant read as its pattern. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl

theorem defs_eq : Cert.Kernel.defs (F := Bits) = Cert.KernelIdeal.defs (F := Bits) :=
  congrArg (Pipeline.defs Cert.KernelIdeal.pcfgs) bodies_eq

theorem frame_kernel : Cert.quiescent_Kernel := fun m ρ _ => by
  rw [defs_eq]
  exact (θ_run Cert.KernelIdeal.defs _ _).mono (fun _ h => ⟨fun c => (h.1 c).2, h.2⟩) (Cert.Run.run_main (F := Bits) m ρ)

theorem frame_ideal : Cert.quiescent_KernelIdeal := fun m ρ _ =>
  (θ_run Cert.KernelIdeal.defs _ _).mono (fun _ h => ⟨fun c => (h.1 c).2, h.2⟩) (Cert.Run.run_main (F := Ideal) m ρ)

theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

end Cert.Frames

end
-- ==== Proof.Values.lean ====
/-
  What the two kernels leave, entry by entry, in exact arithmetic.
-/
module

public import proofs.«01_k».proof.Proof.Data
public import Idealize.ShloMosaic.Lib.Pointwise

@[expose] public section

set_option maxRecDepth 16384

noncomputable section

namespace Cert.Values

open Cert.KernelIdeal Cert.KernelIdeal.Gen
open Idealize.ShloMosaic Idealize.ShloMosaic.TcCoe Idealize.ShloMosaic.Tactic

/-- The score's factor. -/
abbrev scale : EReal := (((Real.sqrt 128)⁻¹ : ℝ) : EReal)

/-- The kernel's factor is the real number its name stands for. -/
theorem named_scale : Named.named (F := Ideal) κ "inv_sqrt_d" (φ := .f32) 0x3DB504F3#32 = scale :=
  IdealRules.named_const.ideal_named_scalar _ _ _ _ rfl

/-! ## One block -/

/-- The numerators of one head, at an entry. -/
theorem pay7_apply (q : Vec Ideal S1x8x1x128 .f32) (k v : Vec Ideal S1x1024x1x128 .f32) (i : Fin 8) (d : Fin 128) :
    k0_pay7 q k v (ix4 0 i 0 d)
      = ∑ j : Fin 1024, Ideal.exp ((∑ e : Fin 128, q (ix4 0 i 0 e) * k (ix4 0 j 0 e)) * scale) * v (ix4 0 j 0 d) := by
  pointwise [k0_pay7, k0_pay5, named_scale]

/-- The denominators of one head, at an entry. -/
theorem pay6_apply (q : Vec Ideal S1x8x1x128 .f32) (k : Vec Ideal S1x1024x1x128 .f32) (i : Fin 8) :
    k0_pay6 q k (ix3 0 0 i) = ∑ j : Fin 1024, Ideal.exp ((∑ e : Fin 128, q (ix4 0 i 0 e) * k (ix4 0 j 0 e)) * scale) := by
  pointwise [k0_pay6, k0_pay5, named_scale]

open Partials in
/-- A block of numerators, at an entry. -/
theorem num_apply (X : Vec Ideal S1x8x8x128 .f32) (Y Z : Vec Ideal S1x1024x8x128 .f32) (i h : Fin 8) (d : Fin 128) :
    num X Y Z (ix4 0 i h d)
      = ∑ j : Fin 1024, Ideal.exp ((∑ e : Fin 128, X (ix4 0 i h e) * Y (ix4 0 j h e)) * scale) * Z (ix4 0 j h d) := by
  show k0_pay7 (View.ld X (headQ h)) (View.ld Y (headK h)) (View.ld Z (headK h)) (ValueIdx.ix4 0 i 0 d) = _
  rw [← ix4_eq_valueIdx, pay7_apply]
  pointwise

open Partials in
/-- A block of denominators, at an entry. -/
theorem den_apply (X : Vec Ideal S1x8x8x128 .f32) (Y : Vec Ideal S1x1024x8x128 .f32) (h i : Fin 8) :
    den X Y (ix3 0 h i) = ∑ j : Fin 1024, Ideal.exp ((∑ e : Fin 128, X (ix4 0 i h e) * Y (ix4 0 j h e)) * scale) := by
  show k0_pay6 (View.ld X (headQ h)) (View.ld Y (headK h)) (ValueIdx.ix3 0 0 i) = _
  rw [← ix3_eq_valueIdx, pay6_apply]
  pointwise

/-! ## The whole arrays -/

/-- The score of query `i` and key `j`, of batch `b` and head `h`. -/
def score {n : ℕ} (Q : FVec Ideal S8x8x16x128 .f32) (K : FVec Ideal ⟨4, ![8, n, 16, 128]⟩ .f32)
    (b : Fin 8) (i : Fin 8) (h : Fin 16) (j : Fin n) : EReal :=
  (∑ e : Fin 128, Q (ix4 b i h e) * K (ix4 b j h e)) * scale

/-- The numerators, of one device's keys and values. -/
def numArr (Q : FVec Ideal S8x8x16x128 .f32) (K V : FVec Ideal S8x1024x16x128 .f32) : FVec Ideal S8x8x16x128 .f32 :=
  fun y => ∑ j : Fin 1024, Ideal.exp (score Q K (y 0) (y 1) (y 2) j) * V (ix4 (y 0) j (y 2) (y 3))

/-- The denominators, of one device's keys. -/
def denArr (Q : FVec Ideal S8x8x16x128 .f32) (K : FVec Ideal S8x1024x16x128 .f32) : FVec Ideal S8x16x8 .f32 :=
  fun y => ∑ j : Fin 1024, Ideal.exp (score Q K (y 0) (y 2) (y 1) j)

/-! The blocks of one point lie at the same batch and the same heads. -/

theorem idx0 (t : Fin grid0.N) : win0_0.index t = win0_3.index t := rfl
theorem idx1 (t : Fin grid0.N) : win0_1.index t = win0_3.index t := rfl
theorem idx2 (t : Fin grid0.N) : win0_2.index t = win0_3.index t := rfl
theorem idx3_1 (t : Fin grid0.N) : win0_3.index t 1 = 0 := rfl
theorem idx3_3 (t : Fin grid0.N) : win0_3.index t 3 = 0 := rfl
theorem idx4_0 (t : Fin grid0.N) : win0_4.index t 0 = win0_3.index t 0 := rfl
theorem idx4_1 (t : Fin grid0.N) : win0_4.index t 1 = win0_3.index t 2 := rfl
theorem idx4_2 (t : Fin grid0.N) : win0_4.index t 2 = 0 := rfl
theorem idx1_0 : win1_0.index t1_0 = fun _ => 0 := rfl
theorem idx1_1 : win1_1.index t1_0 = fun _ => 0 := rfl

variable (m : (ℓ : Loc nD τ sig) → Buf (Elt Ideal) ℓ)

/-- The numerators the first kernel leaves: its blocks fill the array. -/
theorem nums_eq (c : Dev nD) : Run.nums m c
    = numArr (m ((c : Thread nD τ).loc main_arg0)) (m ((c : Thread nD τ).loc main_arg1)) (m ((c : Thread nD τ).loc main_arg2)) := by
  unfold Run.nums
  refine (Run.dat0 m c).arrAt_eq_of_covers 3 _ (by decide +kernel) fun t hf y => ?_
  show Partials.num (Run.blkQ m c t) (Run.blkK m c t) (Run.blkV m c t) y = _
  have hy : y = ix4 (y 0) (y 1) (y 2) (y 3) := by funext a; fin_cases a <;> rfl
  rw [hy, show y 0 = (0 : Fin 1) from Subsingleton.elim (α := Fin 1) _ _]
  refine (num_apply (Run.blkQ m c t) (Run.blkK m c t) (Run.blkV m c t) (y 1) (y 2) (y 3)).trans ?_
  unfold numArr score
  blk_point [Run.blkQ, Run.blkK, Run.blkV, idx0 t, idx1 t, idx2 t, idx3_1 t, idx3_3 t]

/-- The denominators the first kernel leaves. -/
theorem dens_eq (c : Dev nD) : Run.dens m c
    = denArr (m ((c : Thread nD τ).loc main_arg0)) (m ((c : Thread nD τ).loc main_arg1)) := by
  unfold Run.dens
  refine (Run.dat0 m c).arrAt_eq_of_covers 4 _ (by decide +kernel) fun t hf y => ?_
  show Partials.den (Run.blkQ m c t) (Run.blkK m c t) y = _
  have hy : y = ix3 (y 0) (y 1) (y 2) := by funext a; fin_cases a <;> rfl
  rw [hy, show y 0 = (0 : Fin 1) from Subsingleton.elim (α := Fin 1) _ _]
  refine (den_apply (Run.blkQ m c t) (Run.blkK m c t) (y 1) (y 2)).trans ?_
  unfold denArr score
  blk_point [Run.blkQ, Run.blkK, idx0 t, idx1 t, idx3_1 t, idx3_3 t, idx4_0 t, idx4_1 t, idx4_2 t]

/-- The second kernel is given the numerators. -/
theorem A_eq (c : Dev nD) : Run.A m c
    = numArr (m ((c : Thread nD τ).loc main_arg0)) (m ((c : Thread nD τ).loc main_arg1)) (m ((c : Thread nD τ).loc main_arg2)) := by
  unfold Run.A
  rw [nums_eq]
  funext y
  blk_ext [idx1_0]

/-- The second kernel is given the denominators. -/
theorem B_eq (c : Dev nD) : Run.B m c
    = denArr (m ((c : Thread nD τ).loc main_arg0)) (m ((c : Thread nD τ).loc main_arg1)) := by
  unfold Run.B
  rw [dens_eq]
  funext y
  blk_ext [idx1_1]

/-- The combination of a pair's sums, at an entry. -/
theorem pay1_apply (b b' : Vec Ideal S8x16x8 .f32) (a a' : Vec Ideal S8x8x16x128 .f32)
    (x i : Fin 8) (h : Fin 16) (d : Fin 128) :
    k1_pay1 b b' a a' (ix4 x i h d)
      = Ideal.div (a (ix4 x i h d) + a' (ix4 x i h d)) (b (ix3 x h i) + b' (ix3 x h i)) := by
  pointwise [k1_pay1]

/-- The second kernel's one block is the result. -/
theorem out_eq (c : Dev nD) : Run.out m c = Swap.combined (Run.A m) (Run.B m) c := by
  unfold Run.out
  refine (Run.dat1 m c).arrAt_eq_of_after_last 2 t1_0 (by decide +kernel) _ fun j => ?_
  rfl

/-- The kernel's result: the pair's numerators over the pair's denominators. -/
theorem out_apply (c : Dev nD) (b i : Fin 8) (h : Fin 16) (d : Fin 128) :
    Run.out m c (ix4 b i h d)
      = Ideal.div
        ((∑ j : Fin 1024, Ideal.exp (score (m ((c : Thread nD τ).loc main_arg0)) (m ((c : Thread nD τ).loc main_arg1)) b i h j)
            * m ((c : Thread nD τ).loc main_arg2) (ix4 b j h d))
          + ∑ j : Fin 1024, Ideal.exp (score (m ((Swap.mate c : Thread nD τ).loc main_arg0)) (m ((Swap.mate c : Thread nD τ).loc main_arg1)) b i h j)
            * m ((Swap.mate c : Thread nD τ).loc main_arg2) (ix4 b j h d))
        ((∑ j : Fin 1024, Ideal.exp (score (m ((c : Thread nD τ).loc main_arg0)) (m ((c : Thread nD τ).loc main_arg1)) b i h j))
          + ∑ j : Fin 1024, Ideal.exp (score (m ((Swap.mate c : Thread nD τ).loc main_arg0)) (m ((Swap.mate c : Thread nD τ).loc main_arg1)) b i h j)) := by
  rw [out_eq]
  unfold Swap.combined
  rw [A_eq, A_eq, B_eq, B_eq, pay1_apply]
  rfl

end Cert.Values

end
-- ==== Proof.Softmax.lean ====
/-
  The identity behind the kernel, over the extended reals: with finite scores, the weighted mean by
  exponentials is the same with the maximum subtracted first and each weight divided by the sum, as
  with the two halves' sums added and divided once at the end.
-/
module

public import Idealize.ShloMosaic.PureOps.Ideal
public import Mathlib.Algebra.BigOperators.Fin

@[expose] public section

noncomputable section

namespace Cert.Softmax

open Idealize.ShloMosaic

theorem exp_coe (r : ℝ) : Ideal.exp (r : EReal) = ((Real.exp r : ℝ) : EReal) := rfl

theorem coe_sum {ι : Type} (s : Finset ι) (f : ι → ℝ) : ((∑ k ∈ s, f k : ℝ) : EReal) = ∑ k ∈ s, (f k : EReal) := by
  classical
  induction s using Finset.induction_on with
  | empty => rw [Finset.sum_empty, Finset.sum_empty]; rfl
  | insert a s ha ih => rw [Finset.sum_insert ha, Finset.sum_insert ha, EReal.coe_add, ih]

/-- A quotient by a real that is not zero is a product. -/
theorem div_coe (x : EReal) {r : ℝ} (h : r ≠ 0) : Ideal.div x (r : EReal) = x * ((r⁻¹ : ℝ) : EReal) := by
  unfold Ideal.div
  rw [if_neg (fun e => h (EReal.coe_eq_zero.mp e)), ← EReal.coe_inv]

/-- A nonnegative real distributes over any sum. -/
theorem sum_mul_coe {ι : Type} (s : Finset ι) (f : ι → EReal) {a : ℝ} (ha : 0 ≤ a) :
    (∑ k ∈ s, f k) * (a : EReal) = ∑ k ∈ s, f k * (a : EReal) := by
  classical
  induction s using Finset.induction_on with
  | empty => rw [Finset.sum_empty, Finset.sum_empty, zero_mul]
  | insert b s hb ih =>
    rw [Finset.sum_insert hb, Finset.sum_insert hb,
      EReal.right_distrib_of_nonneg_of_ne_top (EReal.coe_nonneg.mpr ha) (EReal.coe_ne_top a), ih]

/-- The maximum of finitely many reals, from below everything, is a real. -/
theorem fold_max_coe {ι : Type} [Fintype ι] [Nonempty ι] (r : ι → ℝ) :
    ∃ M : ℝ, Finset.univ.fold max (⊥ : EReal) (fun k => (r k : EReal)) = M := by
  classical
  obtain ⟨k, -, hk⟩ := Finset.exists_max_image (Finset.univ : Finset ι) r Finset.univ_nonempty
  refine ⟨r k, le_antisymm ?_ ?_⟩
  · rw [Finset.fold_max_le]
    exact ⟨bot_le, fun j hj => EReal.coe_le_coe_iff.mpr (hk j hj)⟩
  · rw [Finset.le_fold_max]
    exact .inr ⟨k, Finset.mem_univ k, le_refl _⟩

/-- The reference's weighted mean: maximum subtracted, each weight divided by the sum. -/
theorem shifted {ι : Type} [Fintype ι] [Nonempty ι] (r : ι → ℝ) (v : ι → EReal) (M : ℝ) :
    (∑ k, v k * Ideal.div (Ideal.exp ((r k : EReal) - M)) (∑ j, Ideal.exp ((r j : EReal) - M)))
      = (∑ k, Ideal.exp (r k : EReal) * v k) * (((∑ j, Real.exp (r j))⁻¹ : ℝ) : EReal) := by
  have hL : 0 < ∑ j, Real.exp (r j) := Finset.sum_pos (fun j _ => Real.exp_pos _) Finset.univ_nonempty
  have hs : (∑ j, Ideal.exp ((r j : EReal) - M)) = (((∑ j, Real.exp (r j)) * Real.exp (-M) : ℝ) : EReal) := by
    rw [Finset.sum_mul, coe_sum]
    refine Finset.sum_congr rfl fun j _ => ?_
    rw [← EReal.coe_sub, exp_coe, sub_eq_add_neg, Real.exp_add]
  rw [hs, sum_mul_coe _ _ (inv_nonneg.mpr hL.le)]
  refine Finset.sum_congr rfl fun k _ => ?_
  rw [div_coe _ (mul_pos hL (Real.exp_pos _)).ne', ← EReal.coe_sub, exp_coe, exp_coe, ← EReal.coe_mul, mul_comm _ (v k), mul_assoc, ← EReal.coe_mul,
    sub_eq_add_neg, Real.exp_add]
  congr 2
  have := (Real.exp_pos (-M)).ne'
  field_simp

/-- The two texts agree: `r` the scores, `v` the values, each split in two halves. -/
theorem halves {ι κ : Type} [Fintype ι] [Nonempty ι] [Fintype κ] [Nonempty κ] (r r' : κ → ℝ) (v v' : κ → EReal) (s : ι → ℝ) (u : ι → EReal)
    (hr : (∑ k, Ideal.exp (s k : EReal)) = (∑ k, Ideal.exp (r k : EReal)) + ∑ k, Ideal.exp (r' k : EReal))
    (hv : (∑ k, Ideal.exp (s k : EReal) * u k) = (∑ k, Ideal.exp (r k : EReal) * v k) + ∑ k, Ideal.exp (r' k : EReal) * v' k) :
    Ideal.div ((∑ k, Ideal.exp (r k : EReal) * v k) + ∑ k, Ideal.exp (r' k : EReal) * v' k)
        ((∑ k, Ideal.exp (r k : EReal)) + ∑ k, Ideal.exp (r' k : EReal))
      = ∑ k, u k * Ideal.div (Ideal.exp ((s k : EReal) - Finset.univ.fold max (⊥ : EReal) (fun k => (s k : EReal))))
          (∑ j, Ideal.exp ((s j : EReal) - Finset.univ.fold max (⊥ : EReal) (fun k => (s k : EReal)))) := by
  obtain ⟨M, hM⟩ := fold_max_coe s
  have hL : 0 < ∑ j, Real.exp (s j) := Finset.sum_pos (fun j _ => Real.exp_pos _) Finset.univ_nonempty
  rw [hM, shifted s u M, ← hv, ← hr, show (∑ k, Ideal.exp (s k : EReal)) = ((∑ j, Real.exp (s j) : ℝ) : EReal) from (coe_sum _ _).symm,
    div_coe _ hL.ne']

end Cert.Softmax

end
-- ==== Proof.Reference.lean ====
/-
  What the reference computes, entry by entry, in exact arithmetic.
-/
module

public import proofs.«01_k».proof.Proof.Values
public import proofs.«01_k».proof.Proof.Softmax
public import proofs.«01_k».proof.Proof.Gen.ReferenceIdeal.Run

@[expose] public section

set_option maxRecDepth 16384

noncomputable section

namespace Cert.Reference

open Cert.ReferenceIdeal Cert.ReferenceIdeal.Gen Cert.Values
open Idealize.ShloMosaic Idealize.ShloMosaic.TcCoe Idealize.ShloMosaic.Tactic

/-- The scores. -/
def sc (Q : FVec Ideal S8x8x16x128 .f32) (K : FVec Ideal S8x2048x16x128 .f32) : FVec Ideal S8x16x8x2048 .f32 :=
  Host.divf (Host.dotGeneral dot_S8x8x16x128_S8x2048x16x128_S8x16x8x2048_3_3_1_1_02_02 none Q K)
    (broadcastInDim S8x16x8x2048 ![] bcast_S_S8x16x8x2048 (Host.sqrt (constant S_ .f32 0x43000000#32)))

/-- The exponentials of the scores less the greatest of their row. -/
def ex (S : FVec Ideal S8x16x8x2048 .f32) : FVec Ideal S8x16x8x2048 .f32 :=
  Host.exp (subf S (broadcastInDim S8x16x8x2048 ![0, 1, 2, 3] bcast_S8x16x8x1_S8x16x8x2048_0_1_2_3
    (broadcastInDim S8x16x8x1 ![0, 1, 2] bcast_S8x16x8_S8x16x8x1_0_1_2
      (Host.reduce FloatOps.maximumf S (constant S_ .f32 0xFF800000#32) reducesTo_S8x16x8x2048_S8x16x8_d3 h_S_))))

/-- The exponentials, each over the sum of its row, weighing the values. -/
def att (E : FVec Ideal S8x16x8x2048 .f32) (V : FVec Ideal S8x2048x16x128 .f32) : FVec Ideal S8x8x16x128 .f32 :=
  transpose S8x8x16x128 [0, 3, 1, 2] (Host.dotGeneral dot_S8x2048x16x128_S8x16x8x2048_S8x16x128x8_1_3_3_2_02_01 none V
    (Host.divf E (broadcastInDim S8x16x8x2048 ![0, 1, 2, 3] bcast_S8x16x8x1_S8x16x8x2048_0_1_2_3
      (broadcastInDim S8x16x8x1 ![0, 1, 2] bcast_S8x16x8_S8x16x8x1_0_1_2
        (Host.reduceAdd E (constant S_ .f32 0x00000000#32) reducesTo_S8x16x8x2048_S8x16x8_d3 h_S_)))))
    transposes_S8x16x128x8_S8x8x16x128_0_3_1_2

/-- The reference's result. -/
def ref (Q : FVec Ideal S8x8x16x128 .f32) (K V : FVec Ideal S8x2048x16x128 .f32) : FVec Ideal S8x8x16x128 .f32 :=
  att (ex (sc Q K)) V

/-- The pattern of minus infinity. -/
theorem ofBits_neg_inf : Ideal.ofBits .f32 0xFF800000#32 = ⊥ := by simp [Ideal.ofBits, Ideal.ieee]

/-- The pattern of 128. -/
theorem ofBits_128 : Ideal.ofBits .f32 0x43000000#32 = ((128 : ℝ) : EReal) := by
  simp [Ideal.ofBits, Ideal.ieee, -EReal.coe_mul]
  norm_num

/-- A quotient by the root of 128 is a product with the score's factor. -/
theorem div_root (x : EReal) : Ideal.div x (Ideal.sqrt ((128 : ℝ) : EReal)) = x * scale := by
  rw [Ideal.sqrt_coe, if_neg (by norm_num)]
  exact Softmax.div_coe x (Real.sqrt_pos.mpr (by norm_num)).ne'

/-- A score of the reference. -/
theorem sc_apply (Q : FVec Ideal S8x8x16x128 .f32) (K : FVec Ideal S8x2048x16x128 .f32) (b i : Fin 8) (h : Fin 16) (j : Fin 2048) :
    sc Q K (ix4 b h i j) = score Q K b i h j := by
  unfold score
  pointwise [sc]
  rw [ofBits_128]
  exact div_root _

/-- An exponential of the reference. -/
theorem ex_apply (S : FVec Ideal S8x16x8x2048 .f32) (b i : Fin 8) (h : Fin 16) (j : Fin 2048) :
    ex S (ix4 b h i j) = Ideal.exp (S (ix4 b h i j) - Finset.univ.fold max (⊥ : EReal) fun k : Fin 2048 => S (ix4 b h i k)) := by
  pointwise [ex]
  rw [ofBits_neg_inf]

/-- An entry of the weighted values. -/
theorem att_apply (E : FVec Ideal S8x16x8x2048 .f32) (V : FVec Ideal S8x2048x16x128 .f32) (b i : Fin 8) (h : Fin 16) (d : Fin 128) :
    att E V (ix4 b i h d) = ∑ k : Fin 2048, V (ix4 b k h d) * Ideal.div (E (ix4 b h i k)) (∑ j : Fin 2048, E (ix4 b h i j)) := by
  pointwise [att]

/-- The reference's result: the softmax of the scores, weighing the values. -/
theorem ref_apply (Q : FVec Ideal S8x8x16x128 .f32) (K V : FVec Ideal S8x2048x16x128 .f32) (b i : Fin 8) (h : Fin 16) (d : Fin 128) :
    ref Q K V (ix4 b i h d) = ∑ k : Fin 2048, V (ix4 b k h d)
      * Ideal.div (Ideal.exp (score Q K b i h k - Finset.univ.fold max (⊥ : EReal) fun k : Fin 2048 => score Q K b i h k))
          (∑ j : Fin 2048, Ideal.exp (score Q K b i h j - Finset.univ.fold max (⊥ : EReal) fun k : Fin 2048 => score Q K b i h k)) := by
  unfold ref
  rw [att_apply]
  simp only [ex_apply, sc_apply]

end Cert.Reference

end
-- ==== Proof.Finite.lean ====
/-
  What the precondition says: no entry of the queries and of the keys is infinite, so that every
  score is a real number.
-/
module

public import proofs.«01_k».proof.Proof.Values
public import proofs.«01_k».proof.Proof.Softmax
public import proofs.«01_k».proof.Pre_finite_qk_KernelIdeal
public import proofs.«01_k».proof.Pre_finite_qk_ReferenceIdeal
public import Idealize.ShloMosaic.Lib.ReduceAll
public import Idealize.ShloMosaic.Lib.IdealHost

@[expose] public section

noncomputable section

namespace Cert.Finite

open Cert.Values
open Idealize.ShloMosaic

instance facts_kernel : Cert.Pre_finite_qk_KernelIdeal.Facts where
  bcast_S_S8x8x16x128 := by decide
  reducesTo_S8x8x16x128_S_d0_1_2_3 := by decide
  h_S_ := by decide
  bcast_S_S8x1024x16x128 := by decide
  reducesTo_S8x1024x16x128_S_d0_1_2_3 := by decide

instance facts_reference : Cert.Pre_finite_qk_ReferenceIdeal.Facts where
  bcast_S_S8x8x16x128 := by decide
  reducesTo_S8x8x16x128_S_d0_1_2_3 := by decide
  h_S_ := by decide
  bcast_S_S8x2048x16x128 := by decide
  reducesTo_S8x2048x16x128_S_d0_1_2_3 := by decide

/-- The pattern of infinity. -/
theorem ofBits_inf : Ideal.ofBits .f32 0x7F800000#32 = ⊤ := by simp [Ideal.ofBits, Ideal.ieee]

/-- The score's factor is a real number. -/
theorem scale_real : ∃ r : ℝ, scale = r := ⟨_, rfl⟩

/-- An entry whose absolute value is below infinity is a real number. -/
theorem real_of_abs_lt {x : EReal} (h : max x (-x) < ⊤) : ∃ r : ℝ, x = r := by
  induction x using EReal.rec with
  | bot => exact absurd h (by simp)
  | coe r => exact ⟨r, rfl⟩
  | top => exact absurd h (by simp)

/-- A truth value that is one was true. -/
theorem ofBool_eq_one {p : Prop} [Decidable p] (h : BitVec.ofBool (decide p) = 1#1) : p := by
  by_contra hp
  rw [decide_eq_false hp] at h
  exact absurd h (by decide)

/-- The precondition, read entry by entry. -/
theorem of_pre (Q : FVec Ideal Cert.Pre_finite_qk_KernelIdeal.S8x8x16x128 .f32) (K V : FVec Ideal Cert.Pre_finite_qk_KernelIdeal.S8x1024x16x128 .f32)
    (h : Cert.Pre_finite_qk_KernelIdeal.fn (F := Ideal) Q K V = fun _ => 1#1) :
    (∀ y, ∃ r : ℝ, Q y = r) ∧ ∀ y, ∃ r : ℝ, K y = r := by
  have h0 := congrFun h fun a => a.elim0
  dsimp only [Cert.Pre_finite_qk_KernelIdeal.fn] at h0
  obtain ⟨hQ, hK⟩ := IntOp.andi_eq_one.1 h0
  haveI : Subsingleton Cert.Pre_finite_qk_KernelIdeal.S_.Idx := ⟨fun _ _ => funext fun a => a.elim0⟩
  refine ⟨fun y => ?_, fun y => ?_⟩
  · have e := Host.reduce_andi_all _ _ _ _ _ hQ y
    refine real_of_abs_lt ?_
    have e' : BitVec.ofBool (decide (max (Q y) (-(Q y)) < Ideal.ofBits .f32 0x7F800000#32)) = 1#1 := e
    rw [ofBits_inf] at e'
    exact ofBool_eq_one e'
  · have e := Host.reduce_andi_all _ _ _ _ _ hK y
    refine real_of_abs_lt ?_
    have e' : BitVec.ofBool (decide (max (K y) (-(K y)) < Ideal.ofBits .f32 0x7F800000#32)) = 1#1 := e
    rw [ofBits_inf] at e'
    exact ofBool_eq_one e'

/-- Real queries and keys have real scores. -/
theorem score_real {n : ℕ} (Q : FVec Ideal Cert.KernelIdeal.S8x8x16x128 .f32) (K : FVec Ideal ⟨4, ![8, n, 16, 128]⟩ .f32)
    (hQ : ∀ y, ∃ r : ℝ, Q y = r) (hK : ∀ y, ∃ r : ℝ, K y = r) (b i : Fin 8) (h : Fin 16) (j : Fin n) :
    ∃ r : ℝ, score Q K b i h j = r := by
  choose q hq using hQ
  choose k hk using hK
  obtain ⟨s, hs⟩ := scale_real
  refine ⟨(∑ e : Fin 128, q (ix4 b i h e) * k (ix4 b j h e)) * s, ?_⟩
  unfold score
  rw [hs, EReal.coe_mul, Softmax.coe_sum]
  congr 1
  exact Finset.sum_congr rfl fun e _ => by rw [hq, hk, EReal.coe_mul]

end Cert.Finite

end
-- ==== Proof.Equal.lean ====
/-
  The kernel's result is the reference's: a device and its mate hold the two halves of the keys
  and values, so their numerators and denominators add up to those of the whole.
-/
module

public import proofs.«01_k».proof.Proof.Reference
public import proofs.«01_k».proof.Proof.Finite

@[expose] public section

noncomputable section

namespace Cert.Equal

open Cert.KernelIdeal Cert.KernelIdeal.Gen Cert.Values
open Idealize.ShloMosaic Idealize.ShloMosaic.TcCoe

/-- Where a device's row of keys stands among all of them. -/
def row (c : Dev nD) (j : Fin 1024) : Fin 2048 :=
  ⟨c.val / 2 * 1024 + j.val, by have h : c.val < 4 := c.isLt; have := j.isLt; omega⟩

/-- A device's block of the keys or values. -/
abbrev part (c : Dev nD) (X : FVec Ideal ⟨4, ![8, 2048, 16, 128]⟩ .f32) : FVec Ideal ⟨4, ![8, 1024, 16, 128]⟩ .f32 :=
  Layout.blockN ⟨4, ![8, 1024, 16, 128]⟩ ⟨4, ![8, 2048, 16, 128]⟩ (Layout.meshBlock [2, 2] ![[], [0], [], []] c) X

/-- An entry of a device's block is an entry of the whole, at the device's row. -/
theorem part_apply (c : Dev nD) (X : FVec Ideal ⟨4, ![8, 2048, 16, 128]⟩ .f32) (b : Fin 8) (j : Fin 1024) (h : Fin 16) (d : Fin 128) :
    part c X (ix4 b j h d) = X (ix4 b (row c j) h d) := by
  unfold part
  rw [Layout.blockN_apply]
  congr 1
  funext a
  apply Fin.ext
  rw [Layout.TilesN.idx_val]
  have hc : c.val < 4 := c.isLt
  fin_cases a
  · show 0 * 8 + b.val = b.val; omega
  · show ((c.val / 2) % 2 * 1 + 0) * 1024 + j.val = c.val / 2 * 1024 + j.val
    rw [Nat.mod_eq_of_lt (by omega)]; omega
  · show 0 * 16 + h.val = h.val; omega
  · show 0 * 128 + d.val = d.val; omega

/-- A score against a device's key is the score against that key of the whole. -/
theorem score_part (Q : FVec Ideal S8x8x16x128 .f32) (X : FVec Ideal ⟨4, ![8, 2048, 16, 128]⟩ .f32) (c : Dev nD)
    (b i : Fin 8) (h : Fin 16) (j : Fin 1024) : score Q (part c X) b i h j = score Q X b i h (row c j) := by
  unfold score
  simp only [part_apply]

/-- A sum over all rows is the sum over a device's rows and its mate's. -/
theorem sum_rows (c : Dev nD) (f : Fin 2048 → EReal) :
    ∑ k, f k = ∑ j : Fin 1024, f (row c j) + ∑ j : Fin 1024, f (row (Swap.mate c) j) := by
  rw [Fin.sum_univ_two_halves 1024 1024 rfl f]
  have hc : c.val < 4 := c.isLt
  have hm : (Swap.mate c).val = (c.val % 2 + 2) - 2 * (c.val / 2) := rfl
  rcases (show c.val / 2 = 0 ∨ c.val / 2 = 1 by omega) with h | h
  · congr 1 <;> refine Finset.sum_congr rfl fun j _ => congrArg f (Fin.ext ?_)
    · show j.val = c.val / 2 * 1024 + j.val; omega
    · show 1024 + j.val = (Swap.mate c).val / 2 * 1024 + j.val
      omega
  · rw [add_comm]
    congr 1 <;> refine Finset.sum_congr rfl fun j _ => congrArg f (Fin.ext ?_)
    · show 1024 + j.val = c.val / 2 * 1024 + j.val; omega
    · show j.val = (Swap.mate c).val / 2 * 1024 + j.val
      omega

/-- Every key is some device's. -/
theorem exists_row (k : Fin 2048) : ∃ (c : Dev nD) (j : Fin 1024), row c j = k := by
  have := k.isLt
  refine ⟨⟨k.val / 1024 * 2, show _ < 4 by omega⟩, ⟨k.val % 1024, by omega⟩, Fin.ext ?_⟩
  show k.val / 1024 * 2 / 2 * 1024 + k.val % 1024 = k.val
  omega

/-- The keys are real where every device's block of them is. -/
theorem real_of_parts (X : FVec Ideal ⟨4, ![8, 2048, 16, 128]⟩ .f32) (h : ∀ (c : Dev nD) y, ∃ r : ℝ, part c X y = r) :
    ∀ y, ∃ r : ℝ, X y = r := by
  intro y
  obtain ⟨b, k, g, d, rfl⟩ : ∃ (b : Fin 8) (k : Fin 2048) (g : Fin 16) (d : Fin 128), y = ix4 b k g d :=
    ⟨y 0, y 1, y 2, y 3, by funext a; fin_cases a <;> rfl⟩
  obtain ⟨c, j, rfl⟩ := exists_row k
  obtain ⟨r, hr⟩ := h c (ix4 b j g d)
  exact ⟨r, (part_apply c X b j g d).symm.trans hr⟩

/-- The quotient of a pair's sums is the softmax over all the rows. -/
theorem pair (c : Dev nD) (f u : Fin 2048 → EReal) (hf : ∀ k, ∃ r : ℝ, f k = r) :
    Ideal.div ((∑ j : Fin 1024, Ideal.exp (f (row c j)) * u (row c j))
          + ∑ j : Fin 1024, Ideal.exp (f (row (Swap.mate c) j)) * u (row (Swap.mate c) j))
        ((∑ j : Fin 1024, Ideal.exp (f (row c j))) + ∑ j : Fin 1024, Ideal.exp (f (row (Swap.mate c) j)))
      = ∑ k, u k * Ideal.div (Ideal.exp (f k - Finset.univ.fold max (⊥ : EReal) fun k => f k))
          (∑ j, Ideal.exp (f j - Finset.univ.fold max (⊥ : EReal) fun k => f k)) := by
  choose s hs using hf
  obtain rfl : f = fun k => (s k : EReal) := funext hs
  exact Softmax.halves (fun j => s (row c j)) (fun j => s (row (Swap.mate c) j)) (fun j => u (row c j)) (fun j => u (row (Swap.mate c) j))
    s u (sum_rows c fun k => Ideal.exp (s k : EReal)) (sum_rows c fun k => Ideal.exp (s k : EReal) * u k)

/-- The two results, entry by entry. -/
theorem out_eq_ref (m : (ℓ : Loc nD τ sig) → Buf (Elt Ideal) ℓ)
    (Q : FVec Ideal S8x8x16x128 .f32) (K V : FVec Ideal ⟨4, ![8, 2048, 16, 128]⟩ .f32)
    (hQ : ∀ c : Dev nD, m ((c : Thread nD τ).loc main_arg0) = Q)
    (hK : ∀ c : Dev nD, m ((c : Thread nD τ).loc main_arg1) = part c K)
    (hV : ∀ c : Dev nD, m ((c : Thread nD τ).loc main_arg2) = part c V)
    (fQ : ∀ y, ∃ r : ℝ, Q y = r) (fK : ∀ y, ∃ r : ℝ, K y = r) (c : Dev nD) :
    Run.out m c = Reference.ref Q K V := by
  funext y
  obtain ⟨b, i, h, d, rfl⟩ : ∃ (b i : Fin 8) (h : Fin 16) (d : Fin 128), y = ix4 b i h d :=
    ⟨y 0, y 1, y 2, y 3, by funext a; fin_cases a <;> rfl⟩
  refine (out_apply m c b i h d).trans ?_
  refine Eq.trans ?_ (Reference.ref_apply Q K V b i h d).symm
  simp only [hQ, hK, hV, score_part, part_apply]
  exact pair c (fun k => score Q K b i h k) (fun k => V (ix4 b k h d)) fun k => Finite.score_real Q K fQ fK b i h k

end Cert.Equal

end
-- ==== Proof.Algebra.lean ====
/-
  The value claims: the idealized kernel is the kernel with its factor named, and in exact
  arithmetic, from finite queries and keys, every device ends holding the reference's result.
-/
module

public import proofs.«01_k».proof.Proof.Frames
public import proofs.«01_k».proof.Proof.Equal

@[expose] public section

noncomputable section

namespace Cert.Algebra

open Idealize.ShloMosaic Idealize.SL.Sem

/-- The idealized kernel's frame, under the precondition. -/
theorem frame_ideal_pre : Cert.quiescent_KernelIdeal_pre_finite_qk_KernelIdeal := fun m ρ _ => Cert.Frames.frame_ideal m ρ trivial

/-- The idealized reference's frame, under the precondition. -/
theorem frame_reference_pre : Cert.quiescent_ReferenceIdeal_pre_finite_qk_ReferenceIdeal :=
  fun m ρ _ => Cert.Frames.frame_reference m ρ trivial

/-- The idealized kernel's one change: its factor is named the real number that its float stands for. -/
theorem preserves : Cert.preserves_Kernel_KernelIdeal :=
  IdealRules.named_const.statement _ _ _ _ _ rfl

/-- Every device ends with the reference's result. -/
theorem algebraic : Cert.algebraic_KernelIdeal_ReferenceIdeal_pre_finite_qk_KernelIdeal := fun m ρ m' ρ' pre same => by
  have fin := fun c => Finite.of_pre _ _ _ (pre c)
  have fQ := (fin 0).1
  rw [(same 0).1] at fQ
  have fK := Equal.real_of_parts
    (m' (((0 : Dev Cert.ReferenceIdeal.nD).tc : Thread Cert.ReferenceIdeal.nD Cert.ReferenceIdeal.τ).loc Cert.ReferenceIdeal.main_arg1))
    fun c y => by
      obtain ⟨r, hr⟩ := (fin c).2 y
      exact ⟨r, (congrFun (same c).2.1 y).symm.trans hr⟩
  refine ⟨Reference.ref
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨?_, (h.1 c).2⟩) (Cert.Run.run_main (F := Ideal) m ρ)
    exact (h.1 c).1.trans (Equal.out_eq_ref m _ _ _ (fun c => (same c).1) (fun c => (same c).2.1) (fun c => (same c).2.2) fQ fK c)
  · exact (θ_run Cert.ReferenceIdeal.defs _ _).mono (fun _ h => h 0) (Cert.ReferenceIdeal.Value.run (F := Ideal) m' ρ')

end Cert.Algebra

end
-- ==== Proof.lean ====
/-
  The proof of the claims: the frames, that the idealized kernel is the kernel with its factor named, and that
  it computes what the reference does.
-/
module

public import proofs.«01_k».proof.Defs
public import proofs.«01_k».proof.Proof.Frames
public import proofs.«01_k».proof.Proof.Algebra
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Finite.facts_kernel, Cert.Finite.facts_reference,
    Cert.Frames.frame_kernel, Cert.Frames.frame_ideal, Cert.Algebra.frame_ideal_pre, Cert.Frames.frame_reference,
    Cert.Algebra.frame_reference_pre, Cert.Algebra.preserves, Cert.Algebra.algebraic⟩

end Cert.Proof

end
